-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs_finite [hPre_attention_inputs_finite : Cert.Pre_attention_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs_finite [hPre_attention_inputs_finite : Cert.Pre_attention_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attention_inputs_finite [hKernelIdeal : Cert.KernelIdeal.Facts] [hPre_attention_inputs_finite : Cert.Pre_attention_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attention_inputs_finite [hReferenceIdeal : Cert.ReferenceIdeal.Facts] [hPre_attention_inputs_finite : Cert.Pre_attention_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_attention_inputs_finite [hKernelIdeal : Cert.KernelIdeal.Facts] [hReferenceIdeal : Cert.ReferenceIdeal.Facts] [hPre_attention_inputs_finite : Cert.Pre_attention_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_attention_inputs_finite : Cert.Pre_attention_inputs_finite.Facts),
    quiescent_Kernel (hKernel := hKernel)
    ∧ quiescent_KernelIdeal (hKernelIdeal := hKernelIdeal)
    ∧ quiescent_KernelIdeal_pre_attention_inputs_finite (hKernelIdeal := hKernelIdeal) (hPre_attention_inputs_finite := hPre_attention_inputs_finite)
    ∧ quiescent_ReferenceIdeal (hReferenceIdeal := hReferenceIdeal)
    ∧ quiescent_ReferenceIdeal_pre_attention_inputs_finite (hReferenceIdeal := hReferenceIdeal) (hPre_attention_inputs_finite := hPre_attention_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_attention_inputs_finite (hKernelIdeal := hKernelIdeal) (hReferenceIdeal := hReferenceIdeal) (hPre_attention_inputs_finite := hPre_attention_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_attention_inputs_finite.lean ====
abbrev S8x4096x1024 : Shape := ⟨3, ![8, 4096, 1024]⟩
abbrev S1x1024 : Shape := ⟨2, ![1, 1024]⟩
abbrev S1x1024x1024 : Shape := ⟨3, ![1, 1024, 1024]⟩
abbrev S2048x2048 : Shape := ⟨2, ![2048, 2048]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v15 : FVec F S2048x2048 .f32) (main_v16 : FVec F S2048x2048 .f32) : IVec S_ 1 :=
  let main_v17 : IVec S2048x2048 1 := cmpf .olt main_v15 main_v16
  let main_c_5 : IVec S_ 1 := constantI S_ 1 1#1
  let main_v18 : IVec S_ 1 := (fun x v => Host.reduce IntOp.andi x v reducesTo_S2048x2048_S_d0_1 h_S_) main_v17 main_c_5
  let main_v19 : IVec S_ 1 := andi main_v13 main_v18
  main_v19

def fn {F : FTy → Type} [FloatOps F] (main_arg0 : FVec F S8x4096x1024 .f32) (main_arg1 : FVec F S1x1024 .f32) (main_arg2 : FVec F S1x1024x1024 .f32) (main_arg3 : FVec F S2048x2048 .bf16) (main_arg4 : FVec F S1x1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1024 .f32 := Host.absf main_arg2
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S2048x2048 .f32 := (extf .f32 · bitsLt_bf16_f32) main_arg3
  let main_v15 : FVec F S2048x2048 .f32 := Host.absf main_v14
  let main_cst_4 : FVec F S_ .f32 := constant S_ .f32 0x7F800000#32
  let main_v16 : FVec F S2048x2048 .f32 := broadcastInDim S2048x2048 ![] bcast_S_S2048x2048 main_cst_4
  fn_part1 (F := F) main_v13 main_v15 main_v16
-- ==== Kernel.lean ====
abbrev S8x4096x1024 : Shape := ⟨3, ![8, 4096, 1024]⟩
abbrev S1x1024 : Shape := ⟨2, ![1, 1024]⟩
abbrev S1x1024x1024 : Shape := ⟨3, ![1, 1024, 1024]⟩
abbrev S2048x2048 : Shape := ⟨2, ![2048, 2048]⟩
abbrev S32768x1024 : Shape := ⟨2, ![32768, 1024]⟩
abbrev S1024 : Shape := ⟨1, ![1024]⟩
abbrev S1024x1024 : Shape := ⟨2, ![1024, 1024]⟩
abbrev S256x2048 : Shape := ⟨2, ![256, 2048]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x1024, .f32⟩
  | .hbm, ⟨3, _⟩ => ⟨S2048x2048, .bf16⟩
  | .hbm, ⟨4, _⟩ => ⟨S1x1024x1024, .f32⟩
  | .hbm, ⟨5, _⟩ => ⟨S32768x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x2048, .bf16⟩
  | .local _ .vmem, ⟨5, _⟩ => ⟨S256x2048, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x4096x1024 : Shape := ⟨3, ![8, 4096, 1024]⟩
abbrev S1x1024 : Shape := ⟨2, ![1, 1024]⟩
abbrev S1x1024x1024 : Shape := ⟨3, ![1, 1024, 1024]⟩
abbrev S2048x2048 : Shape := ⟨2, ![2048, 2048]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x1024 : Shape := ⟨2, ![1024, 1024]⟩
abbrev S8x4096x4x256 : Shape := ⟨4, ![8, 4096, 4, 256]⟩
abbrev S8x256x2x4x256 : Shape := ⟨5, ![8, 256, 2, 4, 256]⟩
abbrev S8x256x1x4x256 : Shape := ⟨5, ![8, 256, 1, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x1024, .f32⟩
  | .hbm, ⟨3, _⟩ => ⟨S2048x2048, .bf16⟩
  | .hbm, ⟨4, _⟩ => ⟨S1x1024x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x1024, .f32⟩
  | .hbm, ⟨23, _⟩ => ⟨S8x4096x1024, .f32⟩
  | .hbm, ⟨24, _⟩ => ⟨S8x4096x4x256, .f32⟩
  | .hbm, ⟨25, _⟩ => ⟨S2048x2048, .f32⟩
  | .hbm, ⟨26, _⟩ => ⟨S8x256x2x4x256, .f32⟩
  | .hbm, ⟨27, _⟩ => ⟨S8x256x1x4x256, .f32⟩
  | .hbm, ⟨28, _⟩ => ⟨S8x256x4x256, .f32⟩
  | .hbm, ⟨29, _⟩ => ⟨S8x4x4096x256, .f32⟩
  | .hbm, ⟨30, _⟩ => ⟨S_, .f32⟩
  | .hbm, ⟨31, _⟩ => ⟨S8x4x4096x256, .f32⟩
  | .hbm, ⟨32, _⟩ => ⟨S8x4x4096x256, .f32⟩
  | .hbm, ⟨33, _⟩ => ⟨S_, .f32⟩
  | .hbm, ⟨34, _⟩ => ⟨S8x4x4096, .f32⟩
  | .hbm, ⟨35, _⟩ => ⟨S_, .f32⟩
  | .hbm, ⟨36, _⟩ => ⟨S8x4x4096, .f32⟩
  | .hbm, ⟨37, _⟩ => ⟨S8x4x4096, .f32⟩
  | .hbm, ⟨38, _⟩ => ⟨S8x4x4096x1, .f32⟩
  | .hbm, ⟨39, _⟩ => ⟨S8x4x4096x256, .f32⟩
  | .hbm, ⟨40, _⟩ => ⟨S8x4x4096x256, .f32⟩
  | .hbm, ⟨41, _⟩ => ⟨S8x4x4096x256, .f32⟩
  | .hbm, ⟨42, _⟩ => ⟨S_, .f32⟩
  | .hbm, ⟨43, _⟩ => ⟨S8x4x4096, .f32⟩
  | .hbm, ⟨44, _⟩ => ⟨S8x4x4096x1, .f32⟩
  | .hbm, ⟨45, _⟩ => ⟨S8x4x4096x256, .f32⟩
  | .hbm, ⟨46, _⟩ => ⟨S8x4x4096x256, .f32⟩
  | .hbm, ⟨47, _⟩ => ⟨S8x256x1x4x256, .f32⟩
  | .hbm, ⟨48, _⟩ => ⟨S8x256x4x256, .f32⟩
  | .hbm, ⟨49, _⟩ => ⟨S8x4x256x4096, .f32⟩
  | .hbm, ⟨50, _⟩ => ⟨S8x4096x4x256, .f32⟩
  | .hbm, ⟨51, _⟩ => ⟨S8x4096x1024, .f32⟩
  | .hbm, ⟨52, _⟩ => ⟨S1024x1024, .f32⟩
  | .hbm, ⟨53, _⟩ => ⟨S8x4096x1024, .f32⟩
  | .hbm, ⟨54, _⟩ => ⟨S8x4096x1024, .f32⟩
  | .hbm, ⟨55, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S32768x1024 : Shape := ⟨2, ![32768, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x1024 : Shape := ⟨2, ![1024, 1024]⟩
abbrev S8x1024 : Shape := ⟨2, ![8, 1024]⟩
abbrev S8 : Shape := ⟨1, ![8]⟩
abbrev S8x1 : Shape := ⟨2, ![8, 1]⟩
abbrev S1024x1 : Shape := ⟨2, ![1024, 1]⟩
abbrev S1040x1024 : Shape := ⟨2, ![1040, 1024]⟩
abbrev S1024x2816 : Shape := ⟨2, ![1024, 2816]⟩
abbrev S1040x2816 : Shape := ⟨2, ![1040, 2816]⟩

abbrev nBuf : Space → Nat
  | .hbm => 19
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S32768x1024, .f32⟩
  | .hbm, ⟨8, _⟩ => ⟨S1024, .f32⟩
  | .hbm, ⟨9, _⟩ => ⟨S1024x5632, .f32⟩
  | .hbm, ⟨10, _⟩ => ⟨S1024x5632, .bf16⟩
  | .hbm, ⟨11, _⟩ => ⟨S3x2816, .f32⟩
  | .hbm, ⟨12, _⟩ => ⟨S2816, .f32⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S1x2816, .f32⟩
  | .hbm, ⟨17, _⟩ => ⟨S1x1024, .f32⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x5632, .bf16⟩
  | .local _ .vmem, ⟨8, _⟩ => ⟨S3x2816, .f32⟩
  | .local _ .vmem, ⟨9, _⟩ => ⟨S1x2816, .f32⟩
  | .local _ .vmem, ⟨10, _⟩ => ⟨S2816x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S3x2816 : Shape := ⟨2, ![3, 2816]⟩
abbrev S2816 : Shape := ⟨1, ![2816]⟩
abbrev S8x1x2816 : Shape := ⟨3, ![8, 1, 2816]⟩
abbrev S8x4095x2816 : Shape := ⟨3, ![8, 4095, 2816]⟩
abbrev S1x1x2816 : Shape := ⟨3, ![1, 1, 2816]⟩
abbrev S2816x1024 : Shape := ⟨2, ![2816, 1024]⟩
abbrev S32768x1024 : Shape := ⟨2, ![32768, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1024x5632, .f32⟩
  | .hbm, ⟨25, _⟩ => ⟨S8x4096x5632, .f32⟩
  | .hbm, ⟨26, _⟩ => ⟨S8x4096x2816, .f32⟩
  | .hbm, ⟨27, _⟩ => ⟨S3x2816, .f32⟩
  | .hbm, ⟨28, _⟩ => ⟨S2816, .f32⟩
  | .hbm, ⟨29, _⟩ => ⟨S_, .f32⟩
  | .hbm, ⟨30, _⟩ => ⟨S8x1x2816, .f32⟩
  | .hbm, ⟨31, _⟩ => ⟨S8x4095x2816, .f32⟩
  | .hbm, ⟨32, _⟩ => ⟨S8x4096x2816, .f32⟩
  | .hbm, ⟨33, _⟩ => ⟨S8x4095x2816, .f32⟩
  | .hbm, ⟨34, _⟩ => ⟨S8x4096x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S8x4096x2816, .f32⟩
  | .hbm, ⟨39, _⟩ => ⟨S8x4096x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S1x1x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S_, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S_, .f32⟩
  | .hbm, ⟨66, _⟩ => ⟨S8x4096x2816, .f32⟩
  | .hbm, ⟨67, _⟩ => ⟨S8x4096x2816, .f32⟩
  | .hbm, ⟨68, _⟩ => ⟨S_, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S2816x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S8x4096x1, .f32⟩
  | .hbm, ⟨88, _⟩ => ⟨S8x4096x1024, .f32⟩
  | .hbm, ⟨89, _⟩ => ⟨S8x4096x1024, .f32⟩
  | .hbm, ⟨90, _⟩ => ⟨S1x1x1024, .f32⟩
  | .hbm, ⟨91, _⟩ => ⟨S8x4096x1024, .f32⟩
  | .hbm, ⟨92, _⟩ => ⟨S8x4096x1024, .f32⟩
  | .hbm, ⟨93, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024 : Shape := ⟨2, ![1, 1024]⟩
abbrev S1x1024x11280 : Shape := ⟨3, ![1, 1024, 11280]⟩
abbrev S2x2x1024 : Shape := ⟨3, ![2, 2, 1024]⟩
abbrev S32768x1024 : Shape := ⟨2, ![32768, 1024]⟩
abbrev S_ : Shape := ⟨0, ![]⟩
abbrev S2x1024 : Shape := ⟨2, ![2, 1024]⟩
abbrev S2x1x1024 : Shape := ⟨3, ![2, 1, 1024]⟩
abbrev S1024x11280 : Shape := ⟨2, ![1024, 11280]⟩
abbrev S1024x16 : Shape := ⟨2, ![1024, 16]⟩
abbrev S1024x4x4 : Shape := ⟨3, ![1024, 4, 4]⟩
abbrev S1024x4x128 : Shape := ⟨3, ![1024, 4, 128]⟩
abbrev S1024x512 : Shape := ⟨2, ![1024, 512]⟩
abbrev S1024x1024 : Shape := ⟨2, ![1024, 1024]⟩
abbrev S1024x2048 : Shape := ⟨2, ![1024, 2048]⟩
abbrev S1024x4096 : Shape := ⟨2, ![1024, 4096]⟩
abbrev S1024x11776 : Shape := ⟨2, ![1024, 11776]⟩
abbrev S1x2048 : Shape := ⟨2, ![1, 2048]⟩
abbrev S1x2560 : Shape := ⟨2, ![1, 2560]⟩
abbrev S1024 : Shape := ⟨1, ![1024]⟩
abbrev S32768x9216 : Shape := ⟨2, ![32768, 9216]⟩
abbrev S32768x2560 : Shape := ⟨2, ![32768, 2560]⟩
abbrev S512x1024 : Shape := ⟨2, ![512, 1024]⟩
abbrev S512x9216 : Shape := ⟨2, ![512, 9216]⟩
abbrev S512x2560 : Shape := ⟨2, ![512, 2560]⟩
abbrev S512 : Shape := ⟨1, ![512]⟩
abbrev S512x1 : Shape := ⟨2, ![512, 1]⟩
abbrev S512x512 : Shape := ⟨2, ![512, 512]⟩
abbrev S1x512 : Shape := ⟨2, ![1, 512]⟩

abbrev nBuf : Space → Nat
  | .hbm => 49
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x11280, .f32⟩
  | .hbm, ⟨3, _⟩ => ⟨S2x2x1024, .f32⟩
  | .hbm, ⟨4, _⟩ => ⟨S32768x1024, .f32⟩
  | .hbm, ⟨5, _⟩ => ⟨S_, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1x1024, .f32⟩
  | .hbm, ⟨11, _⟩ => ⟨S2x2x1024, .f32⟩
  | .hbm, ⟨12, _⟩ => ⟨S2x2x1024, .f32⟩
  | .hbm, ⟨13, _⟩ => ⟨S2x2x1024, .f32⟩
  | .hbm, ⟨14, _⟩ => ⟨S_, .f32⟩
  | .hbm, ⟨15, _⟩ => ⟨S2x1024, .f32⟩
  | .hbm, ⟨16, _⟩ => ⟨S2x1x1024, .f32⟩
  | .hbm, ⟨17, _⟩ => ⟨S2x2x1024, .f32⟩
  | .hbm, ⟨18, _⟩ => ⟨S2x2x1024, .f32⟩
  | .hbm, ⟨19, _⟩ => ⟨S_, .f32⟩
  | .hbm, ⟨20, _⟩ => ⟨S_, .f32⟩
  | .hbm, ⟨21, _⟩ => ⟨S2x2x1024, .f32⟩
  | .hbm, ⟨22, _⟩ => ⟨S1024x11280, .f32⟩
  | .hbm, ⟨23, _⟩ => ⟨S1024x11280, .bf16⟩
  | .hbm, ⟨24, _⟩ => ⟨S1024x16, .bf16⟩
  | .hbm, ⟨25, _⟩ => ⟨S1024x4x4, .bf16⟩
  | .hbm, ⟨26, _⟩ => ⟨S1024x4x4, .bf16⟩
  | .hbm, ⟨27, _⟩ => ⟨S_, .i32⟩
  | .hbm, ⟨28, _⟩ => ⟨S_, .bf16⟩
  | .hbm, ⟨29, _⟩ => ⟨S1024x4x128, .bf16⟩
  | .hbm, ⟨30, _⟩ => ⟨S1024x512, .bf16⟩
  | .hbm, ⟨31, _⟩ => ⟨S1024x1024, .bf16⟩
  | .hbm, ⟨32, _⟩ => ⟨S1024x1024, .bf16⟩
  | .hbm, ⟨33, _⟩ => ⟨S1024x1024, .bf16⟩
  | .hbm, ⟨34, _⟩ => ⟨S1024x1024, .bf16⟩
  | .hbm, ⟨35, _⟩ => ⟨S1024x1024, .bf16⟩
  | .hbm, ⟨36, _⟩ => ⟨S1024x2048, .bf16⟩
  | .hbm, ⟨37, _⟩ => ⟨S1024x4096, .bf16⟩
  | .hbm, ⟨38, _⟩ => ⟨S1024x11776, .bf16⟩
  | .hbm, ⟨39, _⟩ => ⟨S2x1x1024, .f32⟩
  | .hbm, ⟨40, _⟩ => ⟨S2x1024, .f32⟩
  | .hbm, ⟨41, _⟩ => ⟨S1x2048, .f32⟩
  | .hbm, ⟨42, _⟩ => ⟨S_, .i32⟩
  | .hbm, ⟨43, _⟩ => ⟨S_, .f32⟩
  | .hbm, ⟨44, _⟩ => ⟨S1x2560, .f32⟩
  | .hbm, ⟨45, _⟩ => ⟨S1024, .f32⟩
  | .hbm, ⟨46, _⟩ => ⟨S1x1024, .f32⟩
  | .hbm, ⟨47, _⟩ => ⟨S32768x9216, .bf16⟩
  | .hbm, ⟨48, _⟩ => ⟨S32768x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x11776, .bf16⟩
  | .local _ .vmem, ⟨4, _⟩ => ⟨S1x2560, .f32⟩
  | .local _ .vmem, ⟨5, _⟩ => ⟨S512x9216, .bf16⟩
  | .local _ .vmem, ⟨6, _⟩ => ⟨S512x9216, .bf16⟩
  | .local _ .vmem, ⟨7, _⟩ => ⟨S512x2560, .f32⟩
  | .local _ .vmem, ⟨8, _⟩ => ⟨S512x2560, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_call0_cst : Ref sig .tc := ⟨.hbm, 19, rfl⟩
abbrev main_call0_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call1_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_call2_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x11776 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x9216 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x4096x1024 : Shape := ⟨3, ![8, 4096, 1024]⟩
abbrev S1x1024 : Shape := ⟨2, ![1, 1024]⟩
abbrev S1x1024x11280 : Shape := ⟨3, ![1, 1024, 11280]⟩
abbrev S2x2x1024 : Shape := ⟨3, ![2, 2, 1024]⟩
abbrev S_ : Shape := ⟨0, ![]⟩
abbrev S2x1024 : Shape := ⟨2, ![2, 1024]⟩
abbrev S2x1x1024 : Shape := ⟨3, ![2, 1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x11280 : Shape := ⟨2, ![1024, 11280]⟩
abbrev S8x4096x11280 : Shape := ⟨3, ![8, 4096, 11280]⟩
abbrev S8x4096x4096 : Shape := ⟨3, ![8, 4096, 4096]⟩
abbrev S8x4096x16 : Shape := ⟨3, ![8, 4096, 16]⟩
abbrev S8x4096x2048 : Shape := ⟨3, ![8, 4096, 2048]⟩
abbrev S8x4096x9216 : Shape := ⟨3, ![8, 4096, 9216]⟩
abbrev S8x4096x4x4 : Shape := ⟨4, ![8, 4096, 4, 4]⟩
abbrev S8x4096x4x124 : Shape := ⟨4, ![8, 4096, 4, 124]⟩
abbrev S8x4096x4x128 : Shape := ⟨4, ![8, 4096, 4, 128]⟩
abbrev S8x4096x512 : Shape := ⟨3, ![8, 4096, 512]⟩
abbrev S8x4096x2560 : Shape := ⟨3, ![8, 4096, 2560]⟩
abbrev S32768x9216 : Shape := ⟨2, ![32768, 9216]⟩
abbrev S32768x2560 : Shape := ⟨2, ![32768, 2560]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x11280, .f32⟩
  | .hbm, ⟨3, _⟩ => ⟨S2x2x1024, .f32⟩
  | .hbm, ⟨4, _⟩ => ⟨S_, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S2x1x1024, .f32⟩
  | .hbm, ⟨10, _⟩ => ⟨S2x2x1024, .f32⟩
  | .hbm, ⟨11, _⟩ => ⟨S2x2x1024, .f32⟩
  | .hbm, ⟨12, _⟩ => ⟨S2x2x1024, .f32⟩
  | .hbm, ⟨13, _⟩ => ⟨S_, .f32⟩
  | .hbm, ⟨14, _⟩ => ⟨S2x1024, .f32⟩
  | .hbm, ⟨15, _⟩ => ⟨S2x1x1024, .f32⟩
  | .hbm, ⟨16, _⟩ => ⟨S2x2x1024, .f32⟩
  | .hbm, ⟨17, _⟩ => ⟨S2x2x1024, .f32⟩
  | .hbm, ⟨18, _⟩ => ⟨S_, .f32⟩
  | .hbm, ⟨19, _⟩ => ⟨S_, .f32⟩
  | .hbm, ⟨20, _⟩ => ⟨S2x2x1024, .f32⟩
  | .hbm, ⟨21, _⟩ => ⟨S2x1x1024, .f32⟩
  | .hbm, ⟨22, _⟩ => ⟨S2x1024, .f32⟩
  | .hbm, ⟨23, _⟩ => ⟨S1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S1024x11280, .f32⟩
  | .hbm, ⟨41, _⟩ => ⟨S8x4096x11280, .f32⟩
  | .hbm, ⟨42, _⟩ => ⟨S8x4096x4096, .f32⟩
  | .hbm, ⟨43, _⟩ => ⟨S8x4096x16, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x2048, .f32⟩
  | .hbm, ⟨48, _⟩ => ⟨S8x4096x2048, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096x1024, .f32⟩
  | .hbm, ⟨63, _⟩ => ⟨S8x4096x1024, .f32⟩
  | .hbm, ⟨64, _⟩ => ⟨S1x1x1024, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S1x1024, .f32⟩
  | .hbm, ⟨71, _⟩ => ⟨S1024, .f32⟩
  | .hbm, ⟨72, _⟩ => ⟨S1x1024, .f32⟩
  | .hbm, ⟨73, _⟩ => ⟨S1024, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S8x4096x1024, .f32⟩
  | .hbm, ⟨78, _⟩ => ⟨S8x4096x1024, .f32⟩
  | .hbm, ⟨79, _⟩ => ⟨S_, .f32⟩
  | .hbm, ⟨80, _⟩ => ⟨S8x4096x1024, .f32⟩
  | .hbm, ⟨81, _⟩ => ⟨S8x4096x1024, .f32⟩
  | .hbm, ⟨82, _⟩ => ⟨S_, .f32⟩
  | .hbm, ⟨83, _⟩ => ⟨S8x4096x1024, .f32⟩
  | .hbm, ⟨84, _⟩ => ⟨S8x4096x1024, .f32⟩
  | .hbm, ⟨85, _⟩ => ⟨S1x1x1024, .f32⟩
  | .hbm, ⟨86, _⟩ => ⟨S8x4096x1024, .f32⟩
  | .hbm, ⟨87, _⟩ => ⟨S8x4096x1024, .f32⟩
  | .hbm, ⟨88, _⟩ => ⟨S1x1x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S_, .f32⟩
  | .hbm, ⟨94, _⟩ => ⟨S8x4096x1024, .f32⟩
  | .hbm, ⟨95, _⟩ => ⟨S8x4096x1024, .f32⟩
  | .hbm, ⟨96, _⟩ => ⟨S_, .f32⟩
  | .hbm, ⟨97, _⟩ => ⟨S8x4096x1024, .f32⟩
  | .hbm, ⟨98, _⟩ => ⟨S8x4096x1024, .f32⟩
  | .hbm, ⟨99, _⟩ => ⟨S8x4096x1024, .f32⟩
  | .hbm, ⟨100, _⟩ => ⟨S8x4096x9216, .f32⟩
  | .hbm, ⟨101, _⟩ => ⟨S8x4096x4x4, .f32⟩
  | .hbm, ⟨102, _⟩ => ⟨S8x4096x4x4, .f32⟩
  | .hbm, ⟨103, _⟩ => ⟨S_, .f32⟩
  | .hbm, ⟨104, _⟩ => ⟨S8x4096x4x124, .f32⟩
  | .hbm, ⟨105, _⟩ => ⟨S8x4096x4x128, .f32⟩
  | .hbm, ⟨106, _⟩ => ⟨S8x4096x512, .f32⟩
  | .hbm, ⟨107, _⟩ => ⟨S8x4096x2560, .f32⟩
  | .hbm, ⟨108, _⟩ => ⟨S32768x9216, .f32⟩
  | .hbm, ⟨109, _⟩ => ⟨S32768x9216, .bf16⟩
  | .hbm, ⟨110, _⟩ => ⟨S32768x2560, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_11 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Kernel4.lean ====
abbrev S8x4096x1024 : Shape := ⟨3, ![8, 4096, 1024]⟩
abbrev S32768x1024 : Shape := ⟨2, ![32768, 1024]⟩
abbrev S32768x9216 : Shape := ⟨2, ![32768, 9216]⟩
abbrev S1x1024x1024 : Shape := ⟨3, ![1, 1024, 1024]⟩
abbrev S1024x1024 : Shape := ⟨2, ![1024, 1024]⟩

abbrev nBuf : Space → Nat
  | .hbm => 15
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S32768x1024, .bf16⟩
  | .hbm, ⟨2, _⟩ => ⟨S32768x1024, .bf16⟩
  | .hbm, ⟨3, _⟩ => ⟨S32768x9216, .bf16⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S32768x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8x4096x1024 : Shape := ⟨3, ![8, 4096, 1024]⟩
abbrev S32768x1024 : Shape := ⟨2, ![32768, 1024]⟩
abbrev S32768x9216 : Shape := ⟨2, ![32768, 9216]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x1024, .bf16⟩
  | .hbm, ⟨2, _⟩ => ⟨S32768x1024, .bf16⟩
  | .hbm, ⟨3, _⟩ => ⟨S32768x9216, .bf16⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S32768x1024, .f32⟩
  | .hbm, ⟨8, _⟩ => ⟨S32768x1024, .bf16⟩
  | .hbm, ⟨9, _⟩ => ⟨S32768x1024, .f32⟩
  | .hbm, ⟨10, _⟩ => ⟨S32768x1024, .bf16⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1024x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S1024x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S1024x1024, .f32⟩
  | .hbm, ⟨38, _⟩ => ⟨S32768x1024, .f32⟩
  | .hbm, ⟨39, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel5.lean ====
abbrev S8x256x1024 : Shape := ⟨3, ![8, 256, 1024]⟩
abbrev S1x1024 : Shape := ⟨2, ![1, 1024]⟩
abbrev S1x1024x2048 : Shape := ⟨3, ![1, 1024, 2048]⟩
abbrev S2048x1024 : Shape := ⟨2, ![2048, 1024]⟩
abbrev S1024 : Shape := ⟨1, ![1024]⟩
abbrev S1024x2048 : Shape := ⟨2, ![1024, 2048]⟩
abbrev S2048x2048 : Shape := ⟨2, ![2048, 2048]⟩
abbrev S1024x512 : Shape := ⟨2, ![1024, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 9
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S2048x1024, .f32⟩
  | .hbm, ⟨4, _⟩ => ⟨S1024, .f32⟩
  | .hbm, ⟨5, _⟩ => ⟨S1024x2048, .f32⟩
  | .hbm, ⟨6, _⟩ => ⟨S1024x2048, .bf16⟩
  | .hbm, ⟨7, _⟩ => ⟨S1x1024, .f32⟩
  | .hbm, ⟨8, _⟩ => ⟨S2048x2048, .bf16⟩
  | .local _ .vmem, ⟨0, _⟩ => ⟨S2048x1024, .f32⟩
  | .local _ .vmem, ⟨1, _⟩ => ⟨S1x1024, .f32⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x256x1024 : Shape := ⟨3, ![8, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x2048 : Shape := ⟨2, ![1024, 2048]⟩
abbrev S8x256x2048 : Shape := ⟨3, ![8, 256, 2048]⟩
abbrev S2048x2048 : Shape := ⟨2, ![2048, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1x1x1024, .f32⟩
  | .hbm, ⟨18, _⟩ => ⟨S8x256x1024, .f32⟩
  | .hbm, ⟨19, _⟩ => ⟨S8x256x1024, .f32⟩
  | .hbm, ⟨20, _⟩ => ⟨S1024x2048, .f32⟩
  | .hbm, ⟨21, _⟩ => ⟨S8x256x2048, .f32⟩
  | .hbm, ⟨22, _⟩ => ⟨S2048x2048, .f32⟩
  | .hbm, ⟨23, _⟩ => ⟨S2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Common.lean ====
/-
  Facts about single extended reals that several of the calls share: what the printed constants denote, and the logistic
  function written through the hyperbolic tangent.
-/
module

public import Idealize.ShloMosaic.Lib.Pipeline.ValueKit

@[expose] public section

noncomputable section

open Idealize.ShloMosaic

namespace Cert.Common

/-- The word of one half denotes one half. -/
theorem half : Ideal.ofBits .f32 0x3F000000#32 = ((1 / 2 : ℝ) : EReal) := by
  simp [Ideal.ofBits, Ideal.ieee, -EReal.coe_mul]; norm_num

/-- One plus an exponential is never zero. -/
theorem one_add_exp_ne (r : ℝ) : (1 : ℝ) + Real.exp r ≠ 0 := by positivity

/-- `tanh(r/2)/2 + 1/2 = 1/(1 + e^(-r))` over the reals. -/
theorem tanh_half (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  rw [Real.tanh_eq_sinh_div_cosh, Real.sinh_eq, Real.cosh_eq, h1]
  set a := Real.exp (1 / 2 * r) with ha
  set b := Real.exp (-(1 / 2 * r)) with hb
  have hap : 0 < a := Real.exp_pos _
  have hbp : 0 < b := Real.exp_pos _
  have hb' : b = a⁻¹ := by field_simp; linarith
  rw [hb']
  field_simp
  ring

/-- The hyperbolic tangent at a real. -/
theorem tanh_coe (r : ℝ) : Ideal.tanh (r : EReal) = (Real.tanh r : EReal) := rfl
/-- The hyperbolic tangent at minus infinity. -/
theorem tanh_bot : Ideal.tanh ⊥ = -1 := rfl
/-- The hyperbolic tangent at infinity. -/
theorem tanh_top : Ideal.tanh ⊤ = 1 := rfl
/-- The exponential at a real. -/
theorem exp_coe (r : ℝ) : Ideal.exp (r : EReal) = (Real.exp r : EReal) := rfl
/-- The exponential at minus infinity. -/
theorem exp_bot : Ideal.exp ⊥ = 0 := rfl
/-- The exponential at infinity. -/
theorem exp_top : Ideal.exp ⊤ = ⊤ := rfl
/-- A quotient by something that is not zero. -/
theorem div_of_ne (x : EReal) {y : EReal} (h : y ≠ 0) : Ideal.div x y = x * y⁻¹ := if_neg h

/-- The logistic function as the kernels compute it, through the hyperbolic tangent, is the quotient `1 / (1 + e^(-x))`, at the
infinities too. -/
theorem sigm (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half]
  induction x using EReal.rec with
  | bot =>
    rw [EReal.coe_mul_bot_of_pos (by norm_num), EReal.neg_bot, tanh_bot, exp_top, show (1 : EReal) + ⊤ = ⊤ from rfl,
      div_of_ne _ (by simp), EReal.inv_top, mul_zero, show (-1 : EReal) = ((-1 : ℝ) : EReal) from (by rw [EReal.coe_neg]; rfl), ← EReal.coe_mul,
      ← EReal.coe_add]
    norm_num
  | top =>
    rw [EReal.coe_mul_top_of_pos (by norm_num), EReal.neg_top, tanh_top, exp_bot, add_zero, div_of_ne _ one_ne_zero, mul_one,
      inv_one, mul_one, ← EReal.coe_add]
    norm_num
  | coe r =>
    rw [← EReal.coe_mul, ← EReal.coe_neg, tanh_coe, exp_coe, ← EReal.coe_mul, ← EReal.coe_add, tanh_half,
      show (1 : EReal) = ((1 : ℝ) : EReal) from rfl, ← EReal.coe_add,
      div_of_ne _ (by exact_mod_cast one_add_exp_ne (-r)), ← EReal.coe_inv, ← EReal.coe_mul, one_mul]

/-- The word of minus infinity denotes it. -/
theorem neg_inf : Ideal.ofBits .f32 0xFF800000#32 = ⊥ := by simp [Ideal.ofBits, Ideal.ieee]

/-- The word of the number of features of a row denotes 1024. -/
theorem width : Ideal.ofBits .f32 0x44800000#32 = ((1024 : ℝ) : EReal) := by
  simp [Ideal.ofBits, Ideal.ieee, -EReal.coe_mul]; norm_num

/-- The word added under the root of a norm denotes a positive real. -/
theorem eps : ∃ e : ℝ, 0 < e ∧ Ideal.ofBits .f32 0x358637BD#32 = (e : EReal) :=
  ⟨8796093 / 8796093022208, by norm_num, by simp [Ideal.ofBits, Ideal.ieee, -EReal.coe_mul]; norm_num⟩

/-- A row divided by its root mean square and multiplied by the gain. -/
def rms {n : ℕ} (x g : Fin n → EReal) (k : Fin n) : EReal :=
  x k * Ideal.rsqrt (Ideal.div (∑ j, x j * x j) (Ideal.ofBits .f32 0x44800000#32) + Ideal.ofBits .f32 0x358637BD#32) * g k

/-- The greatest of finitely many extended reals. -/
def mx {n : ℕ} (s : Fin n → EReal) : EReal := (Finset.univ : Finset (Fin n)).fold max (Ideal.ofBits .f32 0xFF800000#32) s

/-- Taking the greatest with minus infinity changes nothing. -/
theorem max_mx {n : ℕ} (s : Fin n → EReal) : max (Ideal.ofBits .f32 0xFF800000#32) (mx s) = mx s := by
  rw [neg_inf, max_eq_right bot_le]

/-- The softmax of finitely many extended reals. -/
def soft {n : ℕ} (s : Fin n → EReal) (k : Fin n) : EReal := Ideal.div (Ideal.exp (s k - mx s)) (∑ j, Ideal.exp (s j - mx s))

/-- A maximum along the last of four axes, as the reference takes it, is the greatest of the entries there. -/
theorem max_last {a b c n : ℕ} {t u : Shape} (h : (⟨4, ![a, b, c, n]⟩ : Shape).ReducesTo [3] t) (hu : 0 < u.numel)
    (x : FVec Ideal ⟨4, ![a, b, c, n]⟩ .f32) (w : BitVec 32) (j : t.Idx) :
    Host.reduce FloatOps.maximumf x (constant (F := Ideal) u .f32 w) h hu j
      = (Finset.univ : Finset (Fin n)).fold max (Ideal.ofBits .f32 w) (fun k => x (ix4 ⟨(j ⟨0, h.lt_r4_a3_0⟩).val, Shape.coordLt (j ⟨0, h.lt_r4_a3_0⟩) h.size_r4_a3_0⟩ ⟨(j ⟨1, h.lt_r4_a3_1⟩).val, Shape.coordLt (j ⟨1, h.lt_r4_a3_1⟩) h.size_r4_a3_1⟩ ⟨(j ⟨2, h.lt_r4_a3_2⟩).val, Shape.coordLt (j ⟨2, h.lt_r4_a3_2⟩) h.size_r4_a3_2⟩ k)) := by
  have e : (FloatOps.maximumf : Ideal .f32 → Ideal .f32 → Ideal .f32) = (max : EReal → EReal → EReal) := rfl
  rw [e]
  refine (Host.reduce_eq_fold (α := EReal) max x _ h hu j).trans ?_
  exact h.fold_fiber_r4_a3 j max _ x

/-- The same with the reference's second maximum with minus infinity, at named coordinates. -/
theorem max_last_at {a b c n : ℕ} {u : Shape} (h : (⟨4, ![a, b, c, n]⟩ : Shape).ReducesTo [3] ⟨3, ![a, b, c]⟩) (hu : 0 < u.numel)
    (x : FVec Ideal ⟨4, ![a, b, c, n]⟩ .f32) (z : FVec Ideal ⟨3, ![a, b, c]⟩ .f32) (i : Fin a) (k : Fin b) (l : Fin c)
    (hz : z (ix3 i k l) = Ideal.ofBits .f32 0xFF800000#32) :
    maximumf z (Host.reduce FloatOps.maximumf x (constant (F := Ideal) u .f32 0xFF800000#32) h hu) (ix3 i k l)
      = mx (fun j : Fin n => x (ix4 i k l j)) := by
  rw [maximumf_apply, hz, max_last]
  exact max_mx _

/-- An extended real that is a real number. -/
def IsR (x : EReal) : Prop := ∃ r : ℝ, x = r

/-- A sum of two reals is real. -/
theorem IsR.add {x y : EReal} (hx : IsR x) (hy : IsR y) : IsR (x + y) := by
  obtain ⟨a, rfl⟩ := hx; obtain ⟨b, rfl⟩ := hy; exact ⟨a + b, (EReal.coe_add a b).symm⟩

/-- A product of two reals is real. -/
theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of reals is real. -/
theorem IsR.sum {n : ℕ} {f : Fin n → EReal} (h : ∀ i, IsR (f i)) : IsR (∑ i, f i) :=
  Finset.sum_induction f IsR (fun _ _ => IsR.add) ⟨0, EReal.coe_zero.symm⟩ fun i _ => h i

/-- A finite sum of squares of reals is a real that is not negative. -/
theorem sum_sq {n : ℕ} {x : Fin n → EReal} (h : ∀ i, IsR (x i)) : ∃ r : ℝ, 0 ≤ r ∧ ∑ i, x i * x i = r := by
  refine Finset.sum_induction (fun i => x i * x i) (fun z => ∃ r : ℝ, 0 ≤ r ∧ z = r) ?_ ⟨0, le_rfl, EReal.coe_zero.symm⟩ ?_
  · rintro _ _ ⟨a, ha, rfl⟩ ⟨b, hb, rfl⟩
    exact ⟨a + b, add_nonneg ha hb, (EReal.coe_add a b).symm⟩
  · intro i _
    obtain ⟨a, ha⟩ := h i
    exact ⟨a * a, mul_self_nonneg a, by rw [ha, EReal.coe_mul]⟩

/-- A normalised row of reals is a row of reals. -/
theorem IsR.rms {n : ℕ} {x g : Fin n → EReal} (hx : ∀ i, IsR (x i)) (hg : ∀ i, IsR (g i)) (k : Fin n) : IsR (Common.rms x g k) := by
  obtain ⟨q, hq, e⟩ := sum_sq hx
  obtain ⟨d, hd, ed⟩ := eps
  refine ((hx k).mul ?_).mul (hg k)
  have hw : ((1024 : ℝ) : EReal) ≠ 0 := by norm_cast
  have hp : 0 < q * (1024 : ℝ)⁻¹ + d := by positivity
  rw [e, ed, width, div_of_ne _ hw, ← EReal.coe_inv, ← EReal.coe_mul, ← EReal.coe_add, Ideal.rsqrt_coe, if_neg (not_lt.2 hp.le), if_neg hp.ne']
  exact ⟨_, rfl⟩

/-- An exponential is never negative. -/
theorem exp_nonneg (x : EReal) : 0 ≤ Ideal.exp x := by
  induction x with
  | bot => rw [exp_bot]
  | top => rw [exp_top]; exact le_top
  | coe r => rw [exp_coe]; exact EReal.coe_nonneg.2 (Real.exp_pos r).le

/-- Only at minus infinity is an exponential zero. -/
theorem exp_pos {x : EReal} (h : x ≠ ⊥) : 0 < Ideal.exp x := by
  induction x with
  | bot => exact absurd rfl h
  | top => rw [exp_top]; exact EReal.zero_lt_top
  | coe r => rw [exp_coe]; exact EReal.coe_pos.2 (Real.exp_pos r)

/-- The sum of the exponentials of finitely many real scores, the largest taken off each, is not zero. -/
theorem sum_exp_ne {n : ℕ} {s : Fin n → EReal} (h : ∀ j, IsR (s j)) (j : Fin n) : ∑ i, Ideal.exp (s i - mx s) ≠ 0 := by
  have hm : mx s < ⊤ := by
    refine (Finset.fold_max_lt _).2 ⟨by rw [neg_inf]; exact bot_lt_top, fun i _ => ?_⟩
    obtain ⟨r, e⟩ := h i
    rw [e]; exact EReal.coe_lt_top r
  have hj : s j - mx s ≠ ⊥ := by
    obtain ⟨r, e⟩ := h j
    rw [e]
    generalize mx s = z at hm
    induction z with
    | bot => rw [EReal.coe_sub_bot]; exact bot_lt_top.ne'
    | top => exact absurd hm (lt_irrefl _)
    | coe q => rw [← EReal.coe_sub]; exact EReal.coe_ne_bot _
  exact ((exp_pos hj).trans_le (Finset.single_le_sum (f := fun i => Ideal.exp (s i - mx s)) (fun i _ => exp_nonneg _) (Finset.mem_univ j))).ne'

/-- Multiplying by the reciprocal of a sum that is not zero is dividing by it. -/
theorem mul_recip (x : EReal) {y : EReal} (h : y ≠ 0) : x * Ideal.div 1 y = Ideal.div x y := by
  rw [div_of_ne _ h, div_of_ne _ h, one_mul]

/-- A comparison of an absolute value with infinity that came out true says that the value is real. -/
theorem isR_of_cmp {x : EReal} (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  induction x with
  | bot => exact absurd h (by simp [Ideal.cmp])
  | top => exact absurd h (by simp [Ideal.cmp])
  | coe r => exact ⟨r, rfl⟩

end Cert.Common
-- ==== Proof.XattnRef.lean ====
/-
  The reference of the cross-attention call in stages, and each stage read at an index.
-/
module

public import proofs.«01_k».proof.Proof.Gen.ReferenceIdeal.Run
public import Idealize.ShloMosaic.Lib.Pipeline.ValueKit
public import proofs.«01_k».proof.Proof.Common
@[expose] public section

set_option maxRecDepth 16384

noncomputable section

open Idealize.ShloMosaic Idealize.ShloMosaic.TcCoe Idealize.SL.Sem
open Idealize.ShloMosaic.Pipeline (Dat)

namespace Cert.XattnProof
section
open Cert.ReferenceIdeal Cert.ReferenceIdeal.Gen

/-- The normalized stream. -/
def U (x0 : FVec Ideal S8x4096x1024 .f32) (x1 : FVec Ideal S1x1024 .f32) : FVec Ideal S8x4096x1024 .f32 :=
  mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ x1 shapeCasts_S1x1024_S1024)))

/-- The queries. -/
def Q (u : FVec Ideal S8x4096x1024 .f32) (x2 : FVec Ideal S1x1024x1024 .f32) : FVec Ideal S8x4096x4x256 .f32 :=
  shapeCast _ (Host.dotGeneral dot_S8x4096x1024_S1024x1024_S8x4096x1024_2_0_01_1_n_n none u (shapeCast _ x2 shapeCasts_S1x1024x1024_S1024x1024)) shapeCasts_S8x4096x1024_S8x4096x4x256

/-- The keys. -/
def K (x3 : FVec Ideal S2048x2048 .bf16) : FVec Ideal S8x256x4x256 .f32 :=
  shapeCast _ (extractStridedSlice S8x256x1x4x256 ![0, 0, 0, 0, 0] (shapeCast _ (extf .f32 x3 bitsLt_bf16_f32) shapeCasts_S2048x2048_S8x256x2x4x256) slices_S8x256x2x4x256_S8x256x1x4x256_0_0_0_0_0) shapeCasts_S8x256x1x4x256_S8x256x4x256

/-- The values. -/
def W (x3 : FVec Ideal S2048x2048 .bf16) : FVec Ideal S8x256x4x256 .f32 :=
  shapeCast _ (extractStridedSlice S8x256x1x4x256 ![0, 0, 1, 0, 0] (shapeCast _ (extf .f32 x3 bitsLt_bf16_f32) shapeCasts_S2048x2048_S8x256x2x4x256) slices_S8x256x2x4x256_S8x256x1x4x256_0_0_1_0_0) shapeCasts_S8x256x1x4x256_S8x256x4x256

/-- The scores. -/
def SC (q : FVec Ideal S8x4096x4x256 .f32) (k : FVec Ideal S8x256x4x256 .f32) : FVec Ideal S8x4x4096x256 .f32 :=
  mulf (Host.dotGeneral dot_S8x4096x4x256_S8x256x4x256_S8x4x4096x256_3_3_1_1_02_02 none q k) (broadcastInDim S8x4x4096x256 ![] bcast_S_S8x4x4096x256 (constant S_ .f32 0x3D800000#32))

/-- The greatest score of each row. -/
def MX (s : FVec Ideal S8x4x4096x256 .f32) : FVec Ideal S8x4x4096 .f32 :=
  maximumf (broadcastInDim S8x4x4096 ![] bcast_S_S8x4x4096 (constant S_ .f32 0xFF800000#32)) (Host.reduce FloatOps.maximumf s (constant S_ .f32 0xFF800000#32) reducesTo_S8x4x4096x256_S8x4x4096_d3 h_S_)

/-- The exponentials. -/
def EX (s : FVec Ideal S8x4x4096x256 .f32) (M : FVec Ideal S8x4x4096 .f32) : FVec Ideal S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 M)))

/-- The weights of the attention. -/
def PR (e : FVec Ideal S8x4x4096x256 .f32) : FVec Ideal S8x4x4096x256 .f32 :=
  Host.divf e (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd e (constant S_ .f32 0x00000000#32) reducesTo_S8x4x4096x256_S8x4x4096_d3 h_S_)))

/-- What the heads read. -/
def ATT (p : FVec Ideal S8x4x4096x256 .f32) (w : FVec Ideal S8x256x4x256 .f32) : FVec Ideal S8x4096x1024 .f32 :=
  shapeCast _ (transpose S8x4096x4x256 [0, 3, 1, 2] (Host.dotGeneral dot_S8x256x4x256_S8x4x4096x256_S8x4x256x4096_1_3_3_2_02_01 none w p) transposes_S8x4x256x4096_S8x4096x4x256_0_3_1_2) shapeCasts_S8x4096x4x256_S8x4096x1024

/-- The stream plus the projection of what the heads read. -/
def OUT (x0 a : FVec Ideal S8x4096x1024 .f32) (x4 : FVec Ideal S1x1024x1024 .f32) : FVec Ideal S32768x1024 .f32 :=
  shapeCast _ (addf x0 (Host.dotGeneral dot_S8x4096x1024_S1024x1024_S8x4096x1024_2_0_01_1_n_n none a (shapeCast _ x4 shapeCasts_S1x1024x1024_S1024x1024))) shapeCasts_S8x4096x1024_S32768x1024

/-- The scores of the reference. -/
def SCR (x0 : FVec Ideal S8x4096x1024 .f32) (x1 : FVec Ideal S1x1024 .f32) (x2 : FVec Ideal S1x1024x1024 .f32) (x3 : FVec Ideal S2048x2048 .bf16) :
    FVec Ideal S8x4x4096x256 .f32 := SC (Q (U x0 x1) x2) (K x3)

/-- The whole reference. -/
def REF (x0 : FVec Ideal S8x4096x1024 .f32) (x1 : FVec Ideal S1x1024 .f32) (x2 : FVec Ideal S1x1024x1024 .f32) (x3 : FVec Ideal S2048x2048 .bf16) (x4 : FVec Ideal S1x1024x1024 .f32) : FVec Ideal S32768x1024 .f32 :=
  OUT x0 (ATT (PR (EX (SCR x0 x1 x2 x3) (MX (SCR x0 x1 x2 x3)))) (W x3)) x4

/-- The reference's run ends with `REF` of its arguments. -/
theorem ref_run (m : (ℓ : Loc nD τ sig) → Buf (Elt Ideal) ℓ) (c : Dev nD) : Cert.ReferenceIdeal.Value.res_main_v43 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- An entry of the normalised stream. -/
theorem U_at (x0 x1) (b : Fin 8) (s : Fin 4096) (n : Fin 1024) :
    U x0 x1 (ix3 b s n) = Cert.Common.rms (fun k => x0 (ix3 b s k)) (fun k => x1 (ix2 0 k)) n := by
  pointwise [U]
  rfl

/-- An entry of the queries. -/
theorem Q_at (u x2) (b : Fin 8) (s : Fin 4096) (h : Fin 4) (d : Fin 256) :
    Q u x2 (ix4 b s h d) = ∑ k : Fin 1024, u (ix3 b s k) * x2 (ix3 0 k ⟨h.val * 256 + d.val, by omega⟩) := by
  pointwise [Q]

/-- An entry of the keys. -/
theorem K_at (x3) (b : Fin 8) (k : Fin 256) (h : Fin 4) (d : Fin 256) :
    K x3 (ix4 b k h d) = x3 (ix2 ⟨b.val * 256 + k.val, by omega⟩ ⟨h.val * 256 + d.val, by omega⟩) := by
  pointwise [K]

/-- An entry of the values. -/
theorem W_at (x3) (b : Fin 8) (k : Fin 256) (h : Fin 4) (d : Fin 256) :
    W x3 (ix4 b k h d) = x3 (ix2 ⟨b.val * 256 + k.val, by omega⟩ ⟨1024 + h.val * 256 + d.val, by omega⟩) := by
  pointwise [W]

/-- A score. -/
theorem SC_at (q k) (b : Fin 8) (s : Fin 4096) (h : Fin 4) (j : Fin 256) :
    SC q k (ix4 b h s j) = (∑ d : Fin 256, q (ix4 b s h d) * k (ix4 b j h d)) * Ideal.ofBits .f32 0x3D800000#32 := by
  pointwise [SC]

/-- The largest score of a row. -/
theorem MX_at (s) (b : Fin 8) (h : Fin 4) (i : Fin 4096) : MX s (ix3 b h i) = Cert.Common.mx (fun j : Fin 256 => s (ix4 b h i j)) := by
  unfold MX
  exact Cert.Common.max_last_at _ _ s _ b h i rfl

/-- An exponential. -/
theorem EX_at (s M) (b : Fin 8) (h : Fin 4) (i : Fin 4096) (j : Fin 256) :
    EX s M (ix4 b h i j) = Ideal.exp (s (ix4 b h i j) - M (ix3 b h i)) := by
  pointwise [EX]

/-- A weight. -/
theorem PR_at (e) (b : Fin 8) (h : Fin 4) (i : Fin 4096) (j : Fin 256) :
    PR e (ix4 b h i j) = Ideal.div (e (ix4 b h i j)) (∑ k : Fin 256, e (ix4 b h i k)) := by
  pointwise [PR]

/-- An entry of what the heads read. -/
theorem ATT_at (p w) (b : Fin 8) (s : Fin 4096) (n : Fin 1024) :
    ATT p w (ix3 b s n) = ∑ j : Fin 256, w (ix4 b j ⟨n.val / 256, by omega⟩ ⟨n.val % 256, by omega⟩) * p (ix4 b ⟨n.val / 256, by omega⟩ s j) := by
  pointwise [ATT]

/-- An entry of the result. -/
theorem OUT_at (x0 a x4) (i : S32768x1024.Idx) :
    OUT x0 a x4 i = x0 (ix3 ⟨(i 0).val / 4096, by idx_bounds; omega⟩ ⟨(i 0).val % 4096, by omega⟩ (i 1))
      + ∑ k : Fin 1024, a (ix3 ⟨(i 0).val / 4096, by idx_bounds; omega⟩ ⟨(i 0).val % 4096, by omega⟩ k) * x4 (ix3 0 k (i 1)) := by
  pointwise [OUT]

end
end Cert.XattnProof
-- ==== Proof.Xattn.lean ====
/-
  The cross-attention call: a row of the stream is normalised and projected to four heads of queries, each head reads 256 memory slots by a
  softmax over scaled products, and what the heads read is projected and added to the stream. The kernel multiplies by the reciprocal of the
  softmax's sum where the reference divides by the sum; the two agree when that sum is not zero, which it is not when the scores are real.
  `final` says that the kernel's result array is the reference's, entry by entry, when the stream, the gain, the query weights and the keys
  and values are real.
-/
module

public import proofs.«01_k».proof.Proof.Gen.KernelIdeal.Value
public import proofs.«01_k».proof.Proof.Gen.ReferenceIdeal.Run
public import Idealize.ShloMosaic.Lib.Pipeline.ValueKit
public import proofs.«01_k».proof.Proof.Common
public import proofs.«01_k».proof.Proof.XattnRef
@[expose] public section

set_option maxRecDepth 16384

noncomputable section

open Idealize.ShloMosaic Idealize.ShloMosaic.TcCoe Idealize.SL.Sem
open Idealize.ShloMosaic.Pipeline (Dat)

namespace Cert.XattnProof
open Cert.KernelIdeal Cert.KernelIdeal.Gen

/-- One score: a query against a key, scaled. -/
def score (q k : Fin 256 → EReal) : EReal := (∑ d, q d * k d) * Ideal.ofBits .f32 0x3D800000#32

/-- The weights as the kernel forms them: the exponentials times the reciprocal of their sum. -/
def wts (s : Fin 256 → EReal) (j : Fin 256) : EReal :=
  Ideal.exp (s j - Cert.Common.mx s) * Ideal.div 1 (∑ i, Ideal.exp (s i - Cert.Common.mx s))

/-- What one head reads, as the kernel forms it. -/
def head (q : Fin 256 → EReal) (k v : Fin 256 → Fin 256 → EReal) (d : Fin 256) : EReal :=
  ∑ j, wts (fun j => score q (k j)) j * v j d

/-- The projected queries. -/
theorem pay3_at (v0 v2 v17) (r n : Fin 1024) : k0_pay3 (F := Ideal) v0 v2 v17 (ix2 r n)
    = ∑ l : Fin 1024, Cert.Common.rms (fun k : Fin 1024 => v0 (ix2 r k)) (fun k => v2 (ix2 0 k)) l * v17 (ix2 l n) := by
  pointwise [k0_pay3, k0_pay2]
  rfl

/-- What head 0 reads. -/
theorem head0_at (v0 v2 v17 v22 v23) (r : Fin 1024) (d : Fin 256) :
    k0_pay5 (F := Ideal) v23 (k0_pay4 v0 v2 v17 v22) (constant S1024x256 .f32 0x00000000#32) (ix2 r d)
      = head (fun d => k0_pay3 (F := Ideal) v0 v2 v17 (ix2 r ⟨d.val, by omega⟩)) (fun j d => v22 (ix2 j d)) (fun j d => v23 (ix2 j d)) d := by
  pointwise [k0_pay5, k0_pay4]
  rfl

/-- What head 1 reads. -/
theorem head1_at (v19 v43 v44) (r : Fin 1024) (d : Fin 256) :
    k0_pay6 (F := Ideal) v19 v43 v44 (ix2 r d)
      = head (fun d => v19 (ix2 r ⟨256 + d.val, by omega⟩)) (fun j d => v43 (ix2 j d)) (fun j d => v44 (ix2 j d)) d := by
  pointwise [k0_pay6]
  rfl

/-- The weights of head 2. -/
theorem wts2_at (v19 v64) (r : Fin 1024) (j : Fin 256) :
    k0_pay7 (F := Ideal) v19 v64 (ix2 r j)
      = wts (fun j => score (fun d => v19 (ix2 r ⟨512 + d.val, by omega⟩)) (fun d => v64 (ix2 j d))) j := by
  pointwise [k0_pay7]
  rfl

/-- The row the body stores, the heads' columns told apart. -/
theorem pay1_at (v1 v19 v40 v61 v65 v79 v85 v86 v105) (r n : Fin 1024) : k0_pay1 (F := Ideal) v1 v19 v40 v61 v65 v79 v85 v86 v105 (ix2 r n)
    = v1 (ix2 r n) + ∑ x : Fin 1024, (if h : x.val < 256 then v40 (ix2 r ⟨x.val, h⟩)
      else if h : x.val - 256 < 256 then v61 (ix2 r ⟨x.val - 256, h⟩)
      else if h : x.val - 256 - 256 < 256 then ∑ j : Fin 256, v79 (ix2 r j) * v65 (ix2 j ⟨x.val - 256 - 256, h⟩)
      else head (fun d => v19 (ix2 r ⟨768 + d.val, by omega⟩)) (fun j d => v85 (ix2 j d)) (fun j d => v86 (ix2 j d)) ⟨x.val - 256 - 256 - 256, by omega⟩)
        * v105 (ix2 x n) := by
  pointwise [k0_pay1]
  rfl

/-- The keys of head 0 are 256 columns of the memory block. -/
theorem ld_k0 (b : Vec Ideal S256x2048 .bf16) (j d : Fin 256) : View.ld b r0_2 (ix2 j d) = b (ix2 j ⟨0 + d.val, by omega⟩) := by
  have h : View.ld b r0_2 (ix2 j d) = b (ix2 ⟨j.val, by omega⟩ ⟨0 + d.val, by omega⟩) := by pointwise
  exact h

/-- The values of head 0 are 256 columns of the memory block. -/
theorem ld_v0 (b : Vec Ideal S256x2048 .bf16) (j d : Fin 256) : View.ld b r0_3 (ix2 j d) = b (ix2 j ⟨1024 + 0 + d.val, by omega⟩) := by
  have h : View.ld b r0_3 (ix2 j d) = b (ix2 ⟨j.val, by omega⟩ ⟨1024 + d.val, by omega⟩) := by pointwise
  exact h

/-- The keys of head 1 are 256 columns of the memory block. -/
theorem ld_k1 (b : Vec Ideal S256x2048 .bf16) (j d : Fin 256) : View.ld b r0_4 (ix2 j d) = b (ix2 j ⟨256 + d.val, by omega⟩) := by
  have h : View.ld b r0_4 (ix2 j d) = b (ix2 ⟨j.val, by omega⟩ ⟨256 + d.val, by omega⟩) := by pointwise
  exact h

/-- The values of head 1 are 256 columns of the memory block. -/
theorem ld_v1 (b : Vec Ideal S256x2048 .bf16) (j d : Fin 256) : View.ld b r0_5 (ix2 j d) = b (ix2 j ⟨1024 + 256 + d.val, by omega⟩) := by
  have h : View.ld b r0_5 (ix2 j d) = b (ix2 ⟨j.val, by omega⟩ ⟨1280 + d.val, by omega⟩) := by pointwise
  exact h

/-- The keys of head 2 are 256 columns of the memory block. -/
theorem ld_k2 (b : Vec Ideal S256x2048 .bf16) (j d : Fin 256) : View.ld b r0_6 (ix2 j d) = b (ix2 j ⟨512 + d.val, by omega⟩) := by
  have h : View.ld b r0_6 (ix2 j d) = b (ix2 ⟨j.val, by omega⟩ ⟨512 + d.val, by omega⟩) := by pointwise
  exact h

/-- The values of head 2 are 256 columns of the memory block. -/
theorem ld_v2 (b : Vec Ideal S256x2048 .bf16) (j d : Fin 256) : View.ld b r0_7 (ix2 j d) = b (ix2 j ⟨1024 + 512 + d.val, by omega⟩) := by
  have h : View.ld b r0_7 (ix2 j d) = b (ix2 ⟨j.val, by omega⟩ ⟨1536 + d.val, by omega⟩) := by pointwise
  exact h

/-- The keys of head 3 are 256 columns of the memory block. -/
theorem ld_k3 (b : Vec Ideal S256x2048 .bf16) (j d : Fin 256) : View.ld b r0_8 (ix2 j d) = b (ix2 j ⟨768 + d.val, by omega⟩) := by
  have h : View.ld b r0_8 (ix2 j d) = b (ix2 ⟨j.val, by omega⟩ ⟨768 + d.val, by omega⟩) := by pointwise
  exact h

/-- The values of head 3 are 256 columns of the memory block. -/
theorem ld_v3 (b : Vec Ideal S256x2048 .bf16) (j d : Fin 256) : View.ld b r0_9 (ix2 j d) = b (ix2 j ⟨1024 + 768 + d.val, by omega⟩) := by
  have h : View.ld b r0_9 (ix2 j d) = b (ix2 ⟨j.val, by omega⟩ ⟨1792 + d.val, by omega⟩) := by pointwise
  exact h

/-- Entry `x` of what the four heads of a row read, side by side: entry `x % 256` of head `x / 256`, whose keys and values are
256 columns of the memory block each. -/
def att (q : Fin 1024 → EReal) (kv : Fin 256 → Fin 2048 → EReal) (x : Fin 1024) : EReal :=
  head (fun d => q ⟨x.val / 256 * 256 + d.val, by omega⟩) (fun j d => kv j ⟨x.val / 256 * 256 + d.val, by omega⟩)
    (fun j d => kv j ⟨1024 + x.val / 256 * 256 + d.val, by omega⟩) ⟨x.val % 256, by omega⟩

/-- `att` at an index whose head and column are given. -/
theorem att_of (q : Fin 1024 → EReal) (kv : Fin 256 → Fin 2048 → EReal) (x : Fin 1024) (o e : ℕ) (ho : x.val / 256 * 256 = o)
    (he : x.val % 256 = e) (hb : o + 256 ≤ 1024) (hee : e < 256) :
    att q kv x = head (fun d => q ⟨o + d.val, by omega⟩) (fun j d => kv j ⟨o + d.val, by omega⟩)
      (fun j d => kv j ⟨1024 + o + d.val, by omega⟩) ⟨e, hee⟩ := by
  subst ho he; rfl

/-- Equal queries, keys and values, equal heads. -/
theorem head_eq {q q' : Fin 256 → EReal} {k k' v v' : Fin 256 → Fin 256 → EReal} (d : Fin 256) (hq : ∀ x, q x = q' x)
    (hk : ∀ j x, k j x = k' j x) (hv : ∀ j x, v j x = v' j x) : head q k v d = head q' k' v' d := by
  rw [funext hq, funext fun j => funext (hk j), funext fun j => funext (hv j)]

/-- What the body stores, entry by entry. -/
theorem pay_at (v0 v2 v17 v3 v105) (r n : Fin 1024) : out0_5 (F := Ideal) v0 v2 v17 v3 v105 (ix2 r n)
    = v0 (ix2 r n) + ∑ x : Fin 1024, att (fun n => k0_pay3 (F := Ideal) v0 v2 v17 (ix2 r n)) (fun j c => v3 (ix2 j c)) x * v105 (ix2 x n) := by
  have e8 : k0_pay8 (F := Ideal) v0 v2 v17 v3 v105 = k0_pay3 v0 v2 v17 := by
    unfold k0_pay8; frame_out
  have e2 : k0_pay2 (F := Ideal) v0 (ix2 r n) = v0 (ix2 r n) := by pointwise [k0_pay2]
  unfold out0_5
  frame_out
  rw [e8, pay1_at, e2]
  refine congrArg (v0 (ix2 r n) + ·) (Finset.sum_congr rfl fun x _ => congrArg (· * v105 (ix2 x n)) ?_)
  have hx := x.isLt
  by_cases h0 : x.val < 256
  · rw [dif_pos h0, head0_at, att_of _ _ x 0 x.val (by omega) (by omega) (by omega) h0]
    exact head_eq _ (fun d => congrArg (fun z => k0_pay3 (F := Ideal) v0 v2 v17 (ix2 r z)) (Fin.ext (Nat.zero_add _).symm))
      (ld_k0 v3) (ld_v0 v3)
  · rw [dif_neg h0]
    by_cases h1 : x.val - 256 < 256
    · rw [dif_pos h1, head1_at, att_of _ _ x 256 (x.val - 256) (by omega) (by omega) (by omega) h1]
      exact head_eq _ (fun _ => rfl) (ld_k1 v3) (ld_v1 v3)
    · rw [dif_neg h1]
      by_cases h2 : x.val - 256 - 256 < 256
      · rw [dif_pos h2, att_of _ _ x 512 (x.val - 256 - 256) (by omega) (by omega) (by omega) h2]
        simp only [wts2_at]
        exact head_eq ⟨x.val - 256 - 256, h2⟩ (fun _ => rfl) (ld_k2 v3) (ld_v2 v3)
      · rw [dif_neg h2, att_of _ _ x 768 (x.val - 256 - 256 - 256) (by omega) (by omega) (by omega) (by omega)]
        exact head_eq _ (fun _ => rfl) (ld_k3 v3) (ld_v3 v3)

/-- One entry of the call's result from the row, the gain, the weights and the keys and values it depends on, as the kernel forms it. -/
def spec (x : EReal) (xr g : Fin 1024 → EReal) (wq : Fin 1024 → Fin 1024 → EReal) (kv : Fin 256 → Fin 2048 → EReal) (wo : Fin 1024 → EReal) : EReal :=
  x + ∑ k, att (fun n => ∑ l, Cert.Common.rms xr g l * wq l n) kv k * wo k

/-- Entry `x` of what the four heads of a row read, as the reference forms it. -/
def ratt (q : Fin 1024 → EReal) (kv : Fin 256 → Fin 2048 → EReal) (x : Fin 1024) : EReal :=
  ∑ j, kv j ⟨1024 + x.val / 256 * 256 + x.val % 256, by omega⟩
    * Cert.Common.soft (fun j => score (fun d => q ⟨x.val / 256 * 256 + d.val, by omega⟩) (fun d => kv j ⟨x.val / 256 * 256 + d.val, by omega⟩)) j

/-- One entry of the reference's result. -/
def rspec (x : EReal) (xr g : Fin 1024 → EReal) (wq : Fin 1024 → Fin 1024 → EReal) (kv : Fin 256 → Fin 2048 → EReal) (wo : Fin 1024 → EReal) : EReal :=
  x + ∑ k, ratt (fun n => ∑ l, Cert.Common.rms xr g l * wq l n) kv k * wo k

/-- What the body stores, from the blocks' rows and columns. -/
theorem out_ix (v0 v2 v17 v3 v105) (r n : Fin 1024) : out0_5 (F := Ideal) v0 v2 v17 v3 v105 (ix2 r n)
    = spec (v0 (ix2 r n)) (fun k : Fin 1024 => v0 (ix2 r k)) (fun k => v2 (ix2 0 k)) (fun l n => v17 (ix2 l n)) (fun j c => v3 (ix2 j c))
        (fun k => v105 (ix2 k n)) := by
  rw [pay_at]
  simp only [pay3_at]
  rfl

/-- `out_ix` at an index of the block. -/
theorem out_at (v0 v2 v17 v3 v105) (y : S1024x1024.Idx) : out0_5 (F := Ideal) v0 v2 v17 v3 v105 y
    = spec (v0 y) (fun k : Fin 1024 => v0 (ix2 (y 0) k)) (fun k => v2 (ix2 0 k)) (fun l n => v17 (ix2 l n)) (fun j c => v3 (ix2 j c))
        (fun k => v105 (ix2 k (y 1))) := by
  have e : y = ix2 (y 0) (y 1) := by funext a; fin_cases a <;> rfl
  refine (congrArg (out0_5 (F := Ideal) v0 v2 v17 v3 v105) e).trans ((out_ix v0 v2 v17 v3 v105 (y 0) (y 1)).trans ?_)
  exact congrArg (fun z => spec z _ _ _ _ _) (congrArg v0 e.symm)

/-- An entry of the reference's result. -/
theorem ref_at (x0 : FVec Ideal Cert.ReferenceIdeal.S8x4096x1024 .f32) (x1 : FVec Ideal S1x1024 .f32) (x2 : FVec Ideal S1x1024x1024 .f32)
    (x3 : FVec Ideal S2048x2048 .bf16) (x4 : FVec Ideal S1x1024x1024 .f32) (i : S32768x1024.Idx) :
    REF x0 x1 x2 x3 x4 i = rspec (x0 (ix3 ⟨(i 0).val / 4096, by idx_bounds; omega⟩ ⟨(i 0).val % 4096, by omega⟩ (i 1)))
      (fun k => x0 (ix3 ⟨(i 0).val / 4096, by idx_bounds; omega⟩ ⟨(i 0).val % 4096, by omega⟩ k)) (fun k => x1 (ix2 0 k)) (fun l n => x2 (ix3 0 l n))
      (fun j c => x3 (ix2 ⟨(i 0).val / 4096 * 256 + j.val, by idx_bounds; omega⟩ c)) (fun k => x4 (ix3 0 k (i 1))) := by
  unfold REF
  rw [OUT_at]
  unfold rspec
  refine congrArg (_ + ·) (Finset.sum_congr rfl fun k _ => congrArg (· * _) ?_)
  rw [ATT_at]
  unfold ratt
  refine Finset.sum_congr rfl fun j _ => ?_
  rw [W_at, PR_at]
  simp only [EX_at, MX_at]
  unfold SCR Cert.Common.soft score
  simp only [SC_at, Q_at, K_at, U_at]

/-- A score of real rows, weights and keys is real. -/
theorem IsR_score {q k : Fin 256 → EReal} (hq : ∀ d, Cert.Common.IsR (q d)) (hk : ∀ d, Cert.Common.IsR (k d)) : Cert.Common.IsR (score q k) := by
  refine (Cert.Common.IsR.sum fun d => (hq d).mul (hk d)).mul ?_
  exact ⟨1 / 16, by simp [Ideal.ofBits, Ideal.ieee, -EReal.coe_mul]; norm_num⟩

/-- Over real inputs the two forms agree: the sum the weights are divided by is not zero. -/
theorem spec_eq (x : EReal) {xr g : Fin 1024 → EReal} {wq : Fin 1024 → Fin 1024 → EReal} {kv : Fin 256 → Fin 2048 → EReal} (wo : Fin 1024 → EReal)
    (hx : ∀ k, Cert.Common.IsR (xr k)) (hg : ∀ k, Cert.Common.IsR (g k)) (hw : ∀ l n, Cert.Common.IsR (wq l n)) (hkv : ∀ j c, Cert.Common.IsR (kv j c)) :
    spec x xr g wq kv wo = rspec x xr g wq kv wo := by
  unfold spec rspec
  refine congrArg (x + ·) (Finset.sum_congr rfl fun k _ => congrArg (· * wo k) ?_)
  unfold att ratt head
  refine Finset.sum_congr rfl fun j _ => ?_
  have hs : ∀ j, Cert.Common.IsR (score (fun d : Fin 256 => ∑ l, Cert.Common.rms xr g l * wq l ⟨k.val / 256 * 256 + d.val, by omega⟩)
      (fun d => kv j ⟨k.val / 256 * 256 + d.val, by omega⟩)) := fun j =>
    IsR_score (fun d => Cert.Common.IsR.sum fun l => (Cert.Common.IsR.rms hx hg l).mul (hw l _)) (fun d => hkv j _)
  unfold wts Cert.Common.soft
  rw [Cert.Common.mul_recip _ (Cert.Common.sum_exp_ne hs j), mul_comm]

variable (m : (ℓ : Loc nD τ sig) → Buf (Elt Ideal) ℓ)

/-- Which block of its array each window holds at a grid point. -/
theorem idx : ∀ t : Fin cfg0.N, win0_0.index t = ![t.val, 0] ∧ win0_1.index t = ![0, 0] ∧ win0_2.index t = ![0, 0]
    ∧ win0_3.index t = ![t.val / 4, 0] ∧ win0_4.index t = ![0, 0] ∧ win0_5.index t = ![t.val, 0] :=
  (by decide +kernel : ∀ t : Fin grid0.N, _)

/-- The kernel is handed the stream with its batches and positions joined to one axis of rows. -/
theorem V0 (c : Dev nD) : (show FVec Ideal S32768x1024 .f32 from V m c main_v0) = shapeCast _ (m ((c.tc : Thread nD τ).loc main_arg0)) (shapeCasts_S8x4096x1024_S32768x1024) := by
  entry_read
  rfl

/-- Row `i` of the joined stream is position `i % 4096` of batch `i / 4096`. -/
theorem cast_at (X : FVec Ideal S8x4096x1024 .f32) (i : S32768x1024.Idx) :
    shapeCast S32768x1024 X shapeCasts_S8x4096x1024_S32768x1024 i = X (ix3 ⟨(i 0).val / 4096, by idx_bounds; omega⟩ ⟨(i 0).val % 4096, by omega⟩ (i 1)) := by
  pointwise

/-- Equal coordinates, equal entries. -/
theorem at_eq {p q r : ℕ} {α : Type} (X : (⟨3, ![p, q, r]⟩ : Shape).Idx → α) {a a' : Fin p} {b b' : Fin q} {k k' : Fin r} (ha : a' = a) (hb : b' = b) (hk : k' = k) :
    X (ix3 a' b' k') = X (ix3 a b k) := by
  subst ha hb hk; rfl

/-- An entry of the stream's block at a grid point. -/
theorem rd0 (c : Dev nD) (t : Fin cfg0.N) (y : S1024x1024.Idx) (a : Fin 8) (b : Fin 4096) (k : Fin 1024)
    (ha : a.val = (t.val * 1024 + (y 0).val) / 4096) (hb : b.val = (t.val * 1024 + (y 0).val) % 4096) (hk : k.val = (y 1).val) :
    (show FVec Ideal S1024x1024 .f32 from iblk m c 0 t) y
      = (show FVec Ideal Cert.ReferenceIdeal.S8x4096x1024 .f32 from m ((c.tc : Thread nD τ).loc main_arg0)) (ix3 a b k) := by
  have ht : t.val < 32 := t.isLt
  have e : (show FVec Ideal S1024x1024 .f32 from iblk m c 0 t) y
      = (show FVec Ideal S32768x1024 .f32 from V m c main_v0) (ix2 ⟨t.val * 1024 + (y 0).val, by idx_bounds; omega⟩ (y 1)) := by
    blk_ext [iblk, idx t]
  rw [e, V0]
  refine (cast_at _ _).trans ?_
  exact at_eq _ (Fin.ext ha.symm) (Fin.ext hb.symm) (Fin.ext hk.symm)

/-- The call's result array is the reference, when the stream, the gain, the query weights and the keys and values are real. -/
theorem final (c : Dev nD) (h0 : ∀ i, Cert.Common.IsR ((show FVec Ideal Cert.ReferenceIdeal.S8x4096x1024 .f32 from m ((c.tc : Thread nD τ).loc main_arg0)) i))
    (h1 : ∀ i, Cert.Common.IsR ((show FVec Ideal S1x1024 .f32 from m ((c.tc : Thread nD τ).loc main_arg1)) i))
    (h2 : ∀ i, Cert.Common.IsR ((show FVec Ideal S1x1024x1024 .f32 from m ((c.tc : Thread nD τ).loc main_arg2)) i))
    (h3 : ∀ i, Cert.Common.IsR ((show FVec Ideal S2048x2048 .bf16 from m ((c.tc : Thread nD τ).loc main_arg3)) i)) :
    (dats m 0 c).arrAt 5 (cfgs 0).N = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  have ht : t.val < 32 := t.isLt
  blk_simp
  rw [after0_5]
  refine (out_at _ _ _ _ _ y).trans (Eq.trans ?_ (ref_at _ _ _ _ _ _).symm)
  rw [← spec_eq _ _ (fun k => h0 _) (fun k => h1 _) (fun l n => h2 _) (fun j c => h3 _)]
  congr 1
  · refine rd0 m c t y _ _ _ ?_ ?_ ?_
    all_goals (blk_simp [idx t] <;> try omega)
  · refine funext fun k => rd0 m c t _ _ _ _ ?_ ?_ ?_
    all_goals (blk_simp [idx t] <;> try omega)
  · refine funext fun k => ?_
    blk_point [iblk, V, idx t]
  · refine funext fun k => funext fun l => ?_
    blk_point [iblk, V, idx t]
  · refine funext fun k => funext fun l => ?_
    blk_ext [iblk, V, idx t]
  · refine funext fun k => ?_
    blk_point [iblk, V, idx t]

end Cert.XattnProof
-- ==== Proof.FfnRef.lean ====
/-
  The reference of the feed-forward call in stages, and each stage read at an index.
-/
module

public import proofs.«01_k».proof.Proof.Gen.Reference2Ideal.Run
public import Idealize.ShloMosaic.Lib.Pipeline.ValueKit
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.FfnProof
section
open Cert.Reference2Ideal Cert.Reference2Ideal.Gen

/-- The normalised stream. -/
def U (x0 : FVec Ideal S8x4096x1024 .f32) (x1 : FVec Ideal S1x1024 .f32) : FVec Ideal S8x4096x1024 .f32 :=
  mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ x1 shapeCasts_S1x1024_S1024)))

/-- The projection to both halves. -/
def UP (u : FVec Ideal S8x4096x1024 .f32) (x2 : FVec Ideal S1x1024x5632 .f32) : FVec Ideal S8x4096x5632 .f32 :=
  Host.dotGeneral dot_S8x4096x1024_S1024x5632_S8x4096x5632_2_0_01_1_n_n none u (shapeCast _ x2 shapeCasts_S1x1024x5632_S1024x5632)

/-- The half that is convolved. -/
def A (z : FVec Ideal S8x4096x5632 .f32) : FVec Ideal S8x4096x2816 .f32 :=
  extractStridedSlice S8x4096x2816 ![0, 0, 0] z slices_S8x4096x5632_S8x4096x2816_0_0_0

/-- That half one position earlier, zero at the first. -/
def AP (a : FVec Ideal S8x4096x2816 .f32) : FVec Ideal S8x4096x2816 .f32 :=
  concatenate S8x4096x2816 1 [⟨S8x1x2816, (broadcastInDim S8x1x2816 ![] bcast_S_S8x1x2816 (constant S_ .f32 0x00000000#32))⟩, ⟨S8x4095x2816, (extractStridedSlice S8x4095x2816 ![0, 0, 0] a slices_S8x4096x2816_S8x4095x2816_0_0_0)⟩] concatenates_S8x1x2816_S8x4095x2816_S8x4096x2816_d1

/-- That half one position later, zero at the last. -/
def AN (a : FVec Ideal S8x4096x2816 .f32) : FVec Ideal S8x4096x2816 .f32 :=
  concatenate S8x4096x2816 1 [⟨S8x4095x2816, (extractStridedSlice S8x4095x2816 ![0, 1, 0] a slices_S8x4096x2816_S8x4095x2816_0_1_0)⟩, ⟨S8x1x2816, (broadcastInDim S8x1x2816 ![] bcast_S_S8x1x2816 (constant S_ .f32 0x00000000#32))⟩] concatenates_S8x4095x2816_S8x1x2816_S8x4096x2816_d1

/-- The convolution of three positions, with its bias. -/
def CV (p a n : FVec Ideal S8x4096x2816 .f32) (x3 : FVec Ideal S1x3x2816 .f32) (x4 : FVec Ideal S1x2816 .f32) : FVec Ideal S8x4096x2816 .f32 :=
  addf (addf (addf (mulf (broadcastInDim S8x4096x2816 ![0, 1, 2] bcast_S1x1x2816_S8x4096x2816_0_1_2 (broadcastInDim S1x1x2816 ![2] bcast_S2816_S1x1x2816_2 (shapeCast _ (extractStridedSlice S1x2816 ![0, 0] (shapeCast _ x3 shapeCasts_S1x3x2816_S3x2816) slices_S3x2816_S1x2816_0_0) shapeCasts_S1x2816_S2816))) p) (mulf (broadcastInDim S8x4096x2816 ![0, 1, 2] bcast_S1x1x2816_S8x4096x2816_0_1_2 (broadcastInDim S1x1x2816 ![2] bcast_S2816_S1x1x2816_2 (shapeCast _ (extractStridedSlice S1x2816 ![1, 0] (shapeCast _ x3 shapeCasts_S1x3x2816_S3x2816) slices_S3x2816_S1x2816_1_0) shapeCasts_S1x2816_S2816))) a)) (mulf (broadcastInDim S8x4096x2816 ![0, 1, 2] bcast_S1x1x2816_S8x4096x2816_0_1_2 (broadcastInDim S1x1x2816 ![2] bcast_S2816_S1x1x2816_2 (shapeCast _ (extractStridedSlice S1x2816 ![2, 0] (shapeCast _ x3 shapeCasts_S1x3x2816_S3x2816) slices_S3x2816_S1x2816_2_0) shapeCasts_S1x2816_S2816))) n)) (broadcastInDim S8x4096x2816 ![0, 1, 2] bcast_S1x1x2816_S8x4096x2816_0_1_2 (broadcastInDim S1x1x2816 ![2] bcast_S2816_S1x1x2816_2 (shapeCast _ x4 shapeCasts_S1x2816_S2816)))

/-- The stream plus the gated and projected convolution. -/
def Y (x0 : FVec Ideal S8x4096x1024 .f32) (v : FVec Ideal S8x4096x2816 .f32) (z : FVec Ideal S8x4096x5632 .f32) (x5 : FVec Ideal S1x2816x1024 .f32) : FVec Ideal S8x4096x1024 .f32 :=
  addf x0 (Host.dotGeneral dot_S8x4096x2816_S2816x1024_S8x4096x1024_2_0_01_1_n_n none (mulf (mulf v (mulf (broadcastInDim S8x4096x2816 ![] bcast_S_S8x4096x2816 (constant S_ .f32 0x3F000000#32)) (addf (broadcastInDim S8x4096x2816 ![] bcast_S_S8x4096x2816 (constant S_ .f32 0x3F800000#32)) (Host.tanh (mulf (broadcastInDim S8x4096x2816 ![] bcast_S_S8x4096x2816 (constant S_ .f32 0x3F4C422A#32)) (addf v (mulf (broadcastInDim S8x4096x2816 ![] bcast_S_S8x4096x2816 (constant S_ .f32 0x3D372713#32)) (mulf (mulf v v) v)))))))) (extractStridedSlice S8x4096x2816 ![0, 0, 2816] z slices_S8x4096x5632_S8x4096x2816_0_0_2816)) (shapeCast _ x5 shapeCasts_S1x2816x1024_S2816x1024))

/-- The normalised sum, its batches and positions joined. -/
def OUT (y : FVec Ideal S8x4096x1024 .f32) (x6 : FVec Ideal S1024 .f32) : FVec Ideal S32768x1024 .f32 :=
  shapeCast _ (mulf (mulf y (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf y y) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 x6))) shapeCasts_S8x4096x1024_S32768x1024

/-- The convolution from the arguments. -/
def CVR (x0 : FVec Ideal S8x4096x1024 .f32) (x1 : FVec Ideal S1x1024 .f32) (x2 : FVec Ideal S1x1024x5632 .f32) (x3 : FVec Ideal S1x3x2816 .f32) (x4 : FVec Ideal S1x2816 .f32) : FVec Ideal S8x4096x2816 .f32 :=
  CV (AP (A (UP (U x0 x1) x2))) (A (UP (U x0 x1) x2)) (AN (A (UP (U x0 x1) x2))) x3 x4

/-- The whole reference. -/
def REF (x0 : FVec Ideal S8x4096x1024 .f32) (x1 : FVec Ideal S1x1024 .f32) (x2 : FVec Ideal S1x1024x5632 .f32) (x3 : FVec Ideal S1x3x2816 .f32) (x4 : FVec Ideal S1x2816 .f32) (x5 : FVec Ideal S1x2816x1024 .f32) (x6 : FVec Ideal S1024 .f32) : FVec Ideal S32768x1024 .f32 :=
  OUT (Y x0 (CVR x0 x1 x2 x3 x4) (UP (U x0 x1) x2) x5) x6

/-- The reference's run ends with `REF` of its arguments. -/
theorem ref_run (m : (ℓ : Loc nD τ sig) → Buf (Elt Ideal) ℓ) (c : Dev nD) :
    Cert.Reference2Ideal.Value.res_main_v75 m c = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- An entry of the normalised stream. -/
theorem U_at (x0 x1) (b : Fin 8) (s : Fin 4096) (n : Fin 1024) :
    U x0 x1 (ix3 b s n) = Cert.Common.rms (fun k => x0 (ix3 b s k)) (fun k => x1 (ix2 0 k)) n := by
  pointwise [U]
  rfl

/-- An entry of the projection. -/
theorem UP_at (u x2) (b : Fin 8) (s : Fin 4096) (j : Fin 5632) :
    UP u x2 (ix3 b s j) = ∑ k : Fin 1024, u (ix3 b s k) * x2 (ix3 0 k j) := by
  pointwise [UP]

/-- An entry of the convolved half. -/
theorem A_at (z) (b : Fin 8) (s : Fin 4096) (j : Fin 2816) : A z (ix3 b s j) = z (ix3 b s ⟨j.val, by omega⟩) := by
  pointwise [A]

/-- An entry of the earlier position. -/
theorem AP_at (a) (b : Fin 8) (s : Fin 4096) (j : Fin 2816) :
    AP a (ix3 b s j) = if h : s.val < 1 then 0 else a (ix3 b ⟨s.val - 1, by omega⟩ j) := by
  pointwise [AP]

/-- An entry of the later position. -/
theorem AN_at (a) (b : Fin 8) (s : Fin 4096) (j : Fin 2816) :
    AN a (ix3 b s j) = if h : s.val < 4095 then a (ix3 b ⟨1 + s.val, by omega⟩ j) else 0 := by
  pointwise [AN]

/-- An entry of the convolution. -/
theorem CV_at (p a n x3 x4) (b : Fin 8) (s : Fin 4096) (j : Fin 2816) :
    CV p a n x3 x4 (ix3 b s j) = x3 (ix3 0 0 j) * p (ix3 b s j) + x3 (ix3 0 1 j) * a (ix3 b s j) + x3 (ix3 0 2 j) * n (ix3 b s j) + x4 (ix2 0 j) := by
  pointwise [CV]

/-- The smooth rectifier, through the hyperbolic tangent. -/
def gel (v : EReal) : EReal :=
  v * (Ideal.ofBits .f32 0x3F000000#32 * (1 + Ideal.tanh (Ideal.ofBits .f32 0x3F4C422A#32 * (v + Ideal.ofBits .f32 0x3D372713#32 * (v * v * v)))))

/-- An entry of the sum. -/
theorem Y_at (x0 v z x5) (b : Fin 8) (s : Fin 4096) (k : Fin 1024) :
    Y x0 v z x5 (ix3 b s k) = x0 (ix3 b s k) + ∑ j : Fin 2816, gel (v (ix3 b s j)) * z (ix3 b s ⟨2816 + j.val, by omega⟩) * x5 (ix3 0 j k) := by
  pointwise [Y]
  rfl

/-- An entry of the result. -/
theorem OUT_at (y x6) (i : S32768x1024.Idx) :
    OUT y x6 i = Cert.Common.rms (fun k => y (ix3 ⟨(i 0).val / 4096, by idx_bounds; omega⟩ ⟨(i 0).val % 4096, by omega⟩ k)) (fun k => x6 (ix1 k)) (i 1) := by
  pointwise [OUT]
  rfl

end
end Cert.FfnProof
-- ==== Proof.Ffn.lean ====
/-
  The feed-forward call: a row is normalised and projected to two halves; the first is convolved over three neighbouring positions of its
  sequence and put through a smooth rectifier, and its product with the second is projected, added to the stream and normalised. The kernel
  works 1024 rows at a time and takes the neighbours across a tile's edge from two further blocks of eight rows, replaced by zero at the
  ends of a sequence. `final` says that its result array is the reference's, entry by entry, for any inputs.
-/
module

public import proofs.«01_k».proof.Proof.Gen.Kernel2Ideal.Value
public import proofs.«01_k».proof.Proof.Gen.Reference2Ideal.Run
public import Idealize.ShloMosaic.Lib.Pipeline.ValueKit
public import proofs.«01_k».proof.Proof.Common
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnProof
open Cert.Kernel2Ideal Cert.Kernel2Ideal.Gen

/-- A normalised row against one column of the projection. -/
def up (x g w : Fin 1024 → EReal) : EReal := ∑ k, Cert.Common.rms x g k * w k

/-- A row of the sum: the stream plus the projection of the rectified convolution times the other half. -/
def row (x : Fin 1024 → EReal) (p a n z w0 w1 w2 b : Fin 2816 → EReal) (wd : Fin 2816 → Fin 1024 → EReal) (k : Fin 1024) : EReal :=
  x k + ∑ j, gel (w0 j * p j + w1 j * a j + w2 j * n j + b j) * z j * wd j k

/-- The rectifier with its factors in the kernel's order. -/
theorem gel_eq (v : EReal) : Ideal.ofBits .f32 0x3F000000#32 * v * (1 + Ideal.tanh (Ideal.ofBits .f32 0x3F4C422A#32 * (v + Ideal.ofBits .f32 0x3D372713#32 * (v * v * v)))) = gel v := by
  unfold gel
  rw [mul_comm (Ideal.ofBits .f32 0x3F000000#32) v, mul_assoc]

/-- The row of the tile and its margins that the body projects, before the projection. -/
def margin (f l : BitVec 1) (x : Fin 1024 → Fin 1024 → EReal) (p n : Fin 8 → Fin 1024 → EReal) (g : Fin 1024 → EReal) (m : Fin 1040) (k : Fin 1024) : EReal :=
  if h : m.val < 8 then Scalar.select f 0 (Cert.Common.rms (p ⟨m.val, h⟩) g k)
  else if h : m.val - 8 < 1024 then Cert.Common.rms (x ⟨m.val - 8, h⟩) g k
  else Scalar.select l 0 (Cert.Common.rms (n ⟨m.val - 8 - 1024, by omega⟩) g k)

/-- A row of the tile and its margins. -/
theorem pay6_at (v0 v2) (f l) (v26 v42) (m : Fin 1040) (k : Fin 1024) :
    k0_pay6 (F := Ideal) (k0_pay2 v0) (k0_pay3 v2) f l (k0_pay4 v26) (k0_pay5 v26) v42 (ix2 m k)
      = margin f l (fun r k => v0 (ix2 r k)) (fun r k => v26 (ix2 r k)) (fun r k => v42 (ix2 r k)) (fun k => v2 (ix2 0 k)) m k := by
  pointwise [k0_pay6, k0_pay2, k0_pay3, k0_pay4, k0_pay5]
  rfl

/-- The first half of the projection, margins included. -/
theorem pay7_at (v1 v3 f l v27 v35 v42 v72) (m : Fin 1040) (j : Fin 2816) :
    k0_pay7 (F := Ideal) v1 v3 f l v27 v35 v42 v72 (ix2 m j) = ∑ k : Fin 1024, k0_pay6 (F := Ideal) v1 v3 f l v27 v35 v42 (ix2 m k) * v72 (ix2 k j) := by
  pointwise [k0_pay7]

/-- The second half of the projection. -/
theorem pay8_at (v1 v3 f l v27 v35 v42 v75) (r : Fin 1024) (j : Fin 2816) :
    k0_pay8 (F := Ideal) v1 v3 f l v27 v35 v42 v75 (ix2 r j)
      = ∑ k : Fin 1024, k0_pay6 (F := Ideal) v1 v3 f l v27 v35 v42 (ix2 ⟨8 + r.val, by omega⟩ k) * v75 (ix2 k j) := by
  pointwise [k0_pay8]

/-- A row of the sum, from the two halves. -/
theorem pay9_at (v1 : FVec Ideal S1024x1024 .f32) (v74 v78 v84 v88 v93 v98 v117) (r n : Fin 1024) :
    k0_pay9 (F := Ideal) v1 v74 v78 1#32 v84 v88 v93 v98 v117 (ix2 r n)
      = row (fun k => v1 (ix2 r k)) (fun j => v74 (ix2 ⟨(8 + r.val + 1040 - 1) % 1040, by omega⟩ j)) (fun j => v74 (ix2 ⟨8 + r.val, by omega⟩ j))
          (fun j => v74 (ix2 ⟨(8 + r.val + 1040 - 1039) % 1040, by omega⟩ j)) (fun j => v78 (ix2 r j)) (fun j => v84 (ix2 0 j)) (fun j => v88 (ix2 0 j))
          (fun j => v93 (ix2 0 j)) (fun j => v98 (ix2 0 j)) (fun j k => v117 (ix2 j k)) n := by
  pointwise [k0_pay9]
  simp only [gel_eq]
  rfl

/-- What the body stores is the normalised row. -/
theorem pay1_at (v120 : FVec Ideal S1024x1024 .f32) (v121) (r n : Fin 1024) :
    k0_pay1 (F := Ideal) v120 v121 (ix2 r n) = Cert.Common.rms (fun k => v120 (ix2 r k)) (fun k => v121 (ix2 0 k)) n := by
  pointwise [k0_pay1]
  rfl

/-- The projection of the row before row `r`: within the tile, or the last of the eight rows before it, or zero at a sequence's start. -/
def prev (f : BitVec 1) (x : Fin 1024 → Fin 1024 → EReal) (p : Fin 8 → Fin 1024 → EReal) (g w : Fin 1024 → EReal) (r : Fin 1024) : EReal :=
  if h : r.val = 0 then (if f = 1#1 then 0 else up (p 7) g w) else up (x ⟨r.val - 1, by omega⟩) g w

/-- The projection of the row after row `r`: within the tile, or the first of the eight rows after it, or zero at a sequence's end. -/
def next (l : BitVec 1) (x : Fin 1024 → Fin 1024 → EReal) (n : Fin 8 → Fin 1024 → EReal) (g w : Fin 1024 → EReal) (r : Fin 1024) : EReal :=
  if h : r.val = 1023 then (if l = 1#1 then 0 else up (n 0) g w) else up (x ⟨r.val + 1, by omega⟩) g w

/-- Projecting a margin row that may have been replaced by zero. -/
theorem sel_up (f : BitVec 1) (x g w : Fin 1024 → EReal) :
    ∑ k, Scalar.select f 0 (Cert.Common.rms x g k) * w k = if f = 1#1 then 0 else up x g w := by
  unfold Scalar.select
  by_cases hf : f = 1#1
  · simp [hf]
  · simp [hf]; rfl

/-- Equal rows of the tile, equal margins rows. -/
theorem margin_at {f l x p n g} {m m' : Fin 1040} (h : m.val = m'.val) (k) : margin f l x p n g m k = margin f l x p n g m' k := by
  rw [Fin.ext h]

/-- The row itself. -/
theorem mid_eq (f l x p n g w) (r : Fin 1024) : ∑ k, margin f l x p n g ⟨8 + r.val, by omega⟩ k * w k = up (x r) g w := by
  have e : ∀ k, margin f l x p n g ⟨8 + r.val, by omega⟩ k = Cert.Common.rms (x r) g k := fun k => by
    unfold margin
    rw [dif_neg (by simp only; omega), dif_pos (by simp only; omega)]
    exact congrArg (fun z => Cert.Common.rms (x z) g k) (Fin.ext (by simp only; omega))
  simp only [e]; rfl

/-- The row before it. -/
theorem prev_eq (f l x p n g w) (r : Fin 1024) : ∑ k, margin f l x p n g ⟨(8 + r.val + 1040 - 1) % 1040, by omega⟩ k * w k = prev f x p g w r := by
  unfold prev
  by_cases h : r.val = 0
  · rw [dif_pos h, ← sel_up]
    refine Finset.sum_congr rfl fun k _ => congrArg (· * w k) ?_
    unfold margin
    rw [dif_pos (by simp only; omega)]
    exact congrArg (fun z => Scalar.select f 0 (Cert.Common.rms (p z) g k)) (Fin.ext (by simp only; omega))
  · rw [dif_neg h, ← mid_eq f l x p n g w]
    refine Finset.sum_congr rfl fun k _ => congrArg (· * w k) (margin_at ?_ k)
    simp only; omega

/-- The row after it. -/
theorem next_eq (f l x p n g w) (r : Fin 1024) : ∑ k, margin f l x p n g ⟨(8 + r.val + 1040 - 1039) % 1040, by omega⟩ k * w k = next l x n g w r := by
  unfold next
  by_cases h : r.val = 1023
  · rw [dif_pos h, ← sel_up]
    refine Finset.sum_congr rfl fun k _ => congrArg (· * w k) ?_
    unfold margin
    rw [dif_neg (by simp only; omega), dif_neg (by simp only; omega)]
    exact congrArg (fun z => Scalar.select l 0 (Cert.Common.rms (n z) g k)) (Fin.ext (by simp only; omega))
  · rw [dif_neg h, ← mid_eq f l x p n g w]
    refine Finset.sum_congr rfl fun k _ => congrArg (· * w k) (margin_at ?_ k)
    simp only; omega

/-- One entry of the call's result: the sum's row normalised. -/
def spec (x : Fin 1024 → EReal) (p a n z w0 w1 w2 b : Fin 2816 → EReal) (wd : Fin 2816 → Fin 1024 → EReal) (gf : Fin 1024 → EReal) (k : Fin 1024) : EReal :=
  Cert.Common.rms (row x p a n z w0 w1 w2 b wd) gf k

/-- Equal rows and columns, equal entries. -/
theorem spec_eq {x x' : Fin 1024 → EReal} {p p' a a' n n' z z' w0 w0' w1 w1' w2 w2' b b' : Fin 2816 → EReal} {wd wd' : Fin 2816 → Fin 1024 → EReal}
    {gf gf' : Fin 1024 → EReal} {k k' : Fin 1024} (hx : x = x') (hp : p = p') (ha : a = a') (hn : n = n') (hz : z = z') (h0 : w0 = w0') (h1 : w1 = w1')
    (h2 : w2 = w2') (hb : b = b') (hd : wd = wd') (hg : gf = gf') (hk : k = k') :
    spec x p a n z w0 w1 w2 b wd gf k = spec x' p' a' n' z' w0' w1' w2' b' wd' gf' k' := by
  subst hx hp ha hn hz h0 h1 h2 hb hd hg hk; rfl

/-- What the body stores, from what it reads. -/
theorem body_at (v0 v2) (f l) (v26 v42 v72 v75 v84 v88 v93 v98 v117 v121) (r n : Fin 1024) :
    k0_pay1 (F := Ideal) (k0_pay9 (k0_pay2 v0) (k0_pay7 (k0_pay2 v0) (k0_pay3 v2) f l (k0_pay4 v26) (k0_pay5 v26) v42 v72)
        (k0_pay8 (k0_pay2 v0) (k0_pay3 v2) f l (k0_pay4 v26) (k0_pay5 v26) v42 v75) 1#32 v84 v88 v93 v98 v117) v121 (ix2 r n)
      = spec (fun k => v0 (ix2 r k))
          (fun j => prev f (fun r k => v0 (ix2 r k)) (fun r k => v26 (ix2 r k)) (fun k => v2 (ix2 0 k)) (fun k => v72 (ix2 k j)) r)
          (fun j => up (fun k => v0 (ix2 r k)) (fun k => v2 (ix2 0 k)) (fun k => v72 (ix2 k j)))
          (fun j => next l (fun r k => v0 (ix2 r k)) (fun r k => v42 (ix2 r k)) (fun k => v2 (ix2 0 k)) (fun k => v72 (ix2 k j)) r)
          (fun j => up (fun k => v0 (ix2 r k)) (fun k => v2 (ix2 0 k)) (fun k => v75 (ix2 k j)))
          (fun j => v84 (ix2 0 j)) (fun j => v88 (ix2 0 j)) (fun j => v93 (ix2 0 j)) (fun j => v98 (ix2 0 j)) (fun j k => v117 (ix2 j k))
          (fun k => v121 (ix2 0 k)) n := by
  have e2 : ∀ k : Fin 1024, k0_pay2 (F := Ideal) v0 (ix2 r k) = v0 (ix2 r k) := fun k => by pointwise [k0_pay2]
  rw [pay1_at]
  unfold spec
  refine congrArg (fun z => Cert.Common.rms z _ n) (funext fun k => ?_)
  rw [pay9_at]
  simp only [pay7_at, pay8_at, pay6_at, prev_eq, next_eq, e2]
  congr 1
  · exact funext fun j => mid_eq f l (fun r k => v0 (ix2 r k)) _ _ _ (fun k => v72 (ix2 k j)) r
  · exact funext fun j => mid_eq f l (fun r k => v0 (ix2 r k)) _ _ _ (fun k => v75 (ix2 k j)) r

/-- The first half's weights are the first columns. -/
theorem ld_a (b : Vec Ideal S1024x5632 .bf16) (k : Fin 1024) (j : Fin 2816) : View.ld b r0_3 (ix2 k j) = b (ix2 k ⟨j.val, by omega⟩) := by
  have h : View.ld b r0_3 (ix2 k j) = b (ix2 ⟨k.val, by omega⟩ ⟨j.val, by omega⟩) := by pointwise
  exact h

/-- The second half's weights are the last columns. -/
theorem ld_z (b : Vec Ideal S1024x5632 .bf16) (k : Fin 1024) (j : Fin 2816) : View.ld b r0_4 (ix2 k j) = b (ix2 k ⟨2816 + j.val, by omega⟩) := by
  have h : View.ld b r0_4 (ix2 k j) = b (ix2 ⟨k.val, by omega⟩ ⟨2816 + j.val, by omega⟩) := by pointwise
  exact h

/-- The convolution's weights of the position before. -/
theorem ld_0 (b : Vec Ideal S3x2816 .f32) (j : Fin 2816) : View.ld b r0_5 (ix2 0 j) = b (ix2 0 j) := by
  have h : View.ld b r0_5 (ix2 0 j) = b (ix2 0 ⟨j.val, by omega⟩) := by pointwise
  exact h

/-- The convolution's weights of the position. -/
theorem ld_1 (b : Vec Ideal S3x2816 .f32) (j : Fin 2816) : View.ld b r0_6 (ix2 0 j) = b (ix2 1 j) := by
  have h : View.ld b r0_6 (ix2 0 j) = b (ix2 1 ⟨j.val, by omega⟩) := by pointwise
  exact h

/-- The convolution's weights of the position after. -/
theorem ld_2 (b : Vec Ideal S3x2816 .f32) (j : Fin 2816) : View.ld b r0_7 (ix2 0 j) = b (ix2 2 j) := by
  have h : View.ld b r0_7 (ix2 0 j) = b (ix2 2 ⟨j.val, by omega⟩) := by pointwise
  exact h

/-- Whether a tile starts a sequence, as the body computes it. -/
def atStart (i : grid0.Coords) : BitVec 1 := Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32

/-- Whether a tile ends a sequence, as the body computes it. -/
def atEnd (i : grid0.Coords) : BitVec 1 := Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 3#32

/-- Every fourth tile starts a sequence. -/
theorem start_eq : ∀ t : Fin cfg0.N, atStart (grid0.coords t) = if t.val % 4 = 0 then 1#1 else 0#1 :=
  (by decide +kernel : ∀ t : Fin grid0.N, _)

/-- Every fourth tile ends a sequence. -/
theorem end_eq : ∀ t : Fin cfg0.N, atEnd (grid0.coords t) = if t.val % 4 = 3 then 1#1 else 0#1 :=
  (by decide +kernel : ∀ t : Fin grid0.N, _)

/-- What the body stores, from the blocks. -/
theorem out_ix (i) (x0 x1 x2 x3 x4 x5 x6 x7 x8) (r n : Fin 1024) : out0_9 (F := Ideal) i x0 x1 x2 x3 x4 x5 x6 x7 x8 (ix2 r n)
    = spec (fun k => x0 (ix2 r k))
        (fun j => prev (atStart i) (fun r k => x0 (ix2 r k)) (fun r k => x1 (ix2 r k)) (fun k => x3 (ix2 0 k)) (fun k => x4 (ix2 k ⟨j.val, by omega⟩)) r)
        (fun j => up (fun k => x0 (ix2 r k)) (fun k => x3 (ix2 0 k)) (fun k => x4 (ix2 k ⟨j.val, by omega⟩)))
        (fun j => next (atEnd i) (fun r k => x0 (ix2 r k)) (fun r k => x2 (ix2 r k)) (fun k => x3 (ix2 0 k)) (fun k => x4 (ix2 k ⟨j.val, by omega⟩)) r)
        (fun j => up (fun k => x0 (ix2 r k)) (fun k => x3 (ix2 0 k)) (fun k => x4 (ix2 k ⟨2816 + j.val, by omega⟩)))
        (fun j => x5 (ix2 0 j)) (fun j => x5 (ix2 1 j)) (fun j => x5 (ix2 2 j)) (fun j => x6 (ix2 0 j)) (fun j k => x7 (ix2 j k))
        (fun k => x8 (ix2 0 k)) n := by
  unfold out0_9 k0_pay10 k0_pay11 k0_pay12 k0_pay13
  frame_out
  refine (body_at _ _ (atStart i) (atEnd i) _ _ _ _ _ _ _ _ _ _ r n).trans ?_
  congr 1
  · exact funext fun j => congrArg (fun w => prev (atStart i) _ _ _ w r) (funext fun k => ld_a x4 k j)
  · exact funext fun j => congrArg (fun w => up _ _ w) (funext fun k => ld_a x4 k j)
  · exact funext fun j => congrArg (fun w => next (atEnd i) _ _ _ w r) (funext fun k => ld_a x4 k j)
  · exact funext fun j => congrArg (fun w => up _ _ w) (funext fun k => ld_z x4 k j)
  · exact funext fun j => ld_0 x5 j
  · exact funext fun j => ld_1 x5 j
  · exact funext fun j => ld_2 x5 j

/-- `out_ix` at an index of the block. -/
theorem out_at (i) (x0 x1 x2 x3 x4 x5 x6 x7 x8) (y : S1024x1024.Idx) : out0_9 (F := Ideal) i x0 x1 x2 x3 x4 x5 x6 x7 x8 y
    = spec (fun k => x0 (ix2 (y 0) k))
        (fun j => prev (atStart i) (fun r k => x0 (ix2 r k)) (fun r k => x1 (ix2 r k)) (fun k => x3 (ix2 0 k)) (fun k => x4 (ix2 k ⟨j.val, by omega⟩)) (y 0))
        (fun j => up (fun k => x0 (ix2 (y 0) k)) (fun k => x3 (ix2 0 k)) (fun k => x4 (ix2 k ⟨j.val, by omega⟩)))
        (fun j => next (atEnd i) (fun r k => x0 (ix2 r k)) (fun r k => x2 (ix2 r k)) (fun k => x3 (ix2 0 k)) (fun k => x4 (ix2 k ⟨j.val, by omega⟩)) (y 0))
        (fun j => up (fun k => x0 (ix2 (y 0) k)) (fun k => x3 (ix2 0 k)) (fun k => x4 (ix2 k ⟨2816 + j.val, by omega⟩)))
        (fun j => x5 (ix2 0 j)) (fun j => x5 (ix2 1 j)) (fun j => x5 (ix2 2 j)) (fun j => x6 (ix2 0 j)) (fun j k => x7 (ix2 j k))
        (fun k => x8 (ix2 0 k)) (y 1) := by
  have e : y = ix2 (y 0) (y 1) := by funext a; fin_cases a <;> rfl
  exact (congrArg (out0_9 (F := Ideal) i x0 x1 x2 x3 x4 x5 x6 x7 x8) e).trans (out_ix i x0 x1 x2 x3 x4 x5 x6 x7 x8 (y 0) (y 1))

/-- Equal coordinates, equal entries. -/
theorem at_eq {p q r : ℕ} {α : Type} (X : (⟨3, ![p, q, r]⟩ : Shape).Idx → α) {a a' : Fin p} {b b' : Fin q} {k k' : Fin r} (ha : a' = a) (hb : b' = b) (hk : k' = k) :
    X (ix3 a' b' k') = X (ix3 a b k) := by
  subst ha hb hk; rfl

/-- An entry of the reference's result. -/
theorem ref_at (x0 : FVec Ideal Cert.Reference2Ideal.S8x4096x1024 .f32) (x1 : FVec Ideal S1x1024 .f32) (x2 : FVec Ideal S1x1024x5632 .f32)
    (x3 : FVec Ideal S1x3x2816 .f32) (x4 : FVec Ideal S1x2816 .f32) (x5 : FVec Ideal S1x2816x1024 .f32) (x6 : FVec Ideal S1024 .f32) (i : S32768x1024.Idx)
    (b : Fin 8) (s : Fin 4096) (hb : b.val = (i 0).val / 4096) (hs : s.val = (i 0).val % 4096) :
    REF x0 x1 x2 x3 x4 x5 x6 i = spec (fun k => x0 (ix3 b s k))
      (fun j => if h : s.val < 1 then 0 else up (fun k => x0 (ix3 b ⟨s.val - 1, by omega⟩ k)) (fun k => x1 (ix2 0 k)) (fun k => x2 (ix3 0 k ⟨j.val, by omega⟩)))
      (fun j => up (fun k => x0 (ix3 b s k)) (fun k => x1 (ix2 0 k)) (fun k => x2 (ix3 0 k ⟨j.val, by omega⟩)))
      (fun j => if h : s.val < 4095 then up (fun k => x0 (ix3 b ⟨1 + s.val, by omega⟩ k)) (fun k => x1 (ix2 0 k)) (fun k => x2 (ix3 0 k ⟨j.val, by omega⟩)) else 0)
      (fun j => up (fun k => x0 (ix3 b s k)) (fun k => x1 (ix2 0 k)) (fun k => x2 (ix3 0 k ⟨2816 + j.val, by omega⟩)))
      (fun j => x3 (ix3 0 0 j)) (fun j => x3 (ix3 0 1 j)) (fun j => x3 (ix3 0 2 j)) (fun j => x4 (ix2 0 j)) (fun j k => x5 (ix3 0 j k))
      (fun k => x6 (ix1 k)) (i 1) := by
  unfold REF
  rw [OUT_at]
  unfold spec
  refine congrArg (fun z => Cert.Common.rms z _ (i 1)) (funext fun k => ?_)
  refine (at_eq _ (Fin.ext hb.symm) (Fin.ext hs.symm) rfl).trans ?_
  rw [Y_at]
  unfold row
  refine congrArg (_ + ·) (Finset.sum_congr rfl fun j _ => ?_)
  unfold CVR
  rw [CV_at, AP_at, AN_at]
  simp only [A_at, UP_at, U_at]
  rfl

variable (m : (ℓ : Loc nD τ sig) → Buf (Elt Ideal) ℓ)

/-- Which block of its array each window holds at a grid point. -/
theorem idx : ∀ t : Fin cfg0.N, win0_0.index t = ![t.val, 0] ∧ win0_1.index t = ![128 * t.val - 1, 0] ∧ win0_2.index t = ![min (128 * (t.val + 1)) 4095, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

/-- The kernel is handed the stream with its batches and positions joined to one axis of rows. -/
theorem V0 (c : Dev nD) : (show FVec Ideal S32768x1024 .f32 from V m c main_v0) = shapeCast _ (m ((c.tc : Thread nD τ).loc main_arg0)) (shapeCasts_S8x4096x1024_S32768x1024) := by
  entry_read
  rfl

/-- Row `i` of the joined stream is position `i % 4096` of batch `i / 4096`. -/
theorem cast_at (X : FVec Ideal S8x4096x1024 .f32) (i : S32768x1024.Idx) :
    shapeCast S32768x1024 X shapeCasts_S8x4096x1024_S32768x1024 i = X (ix3 ⟨(i 0).val / 4096, by idx_bounds; omega⟩ ⟨(i 0).val % 4096, by omega⟩ (i 1)) := by
  pointwise

/-- The stream's entry that a row of the joined stream holds. -/
theorem rdV (c : Dev nD) (i : S32768x1024.Idx) (a : Fin 8) (b : Fin 4096) (k : Fin 1024)
    (ha : a.val = (i 0).val / 4096) (hb : b.val = (i 0).val % 4096) (hk : k.val = (i 1).val) :
    (show FVec Ideal S32768x1024 .f32 from V m c main_v0) i
      = (show FVec Ideal Cert.Reference2Ideal.S8x4096x1024 .f32 from m ((c.tc : Thread nD τ).loc main_arg0)) (ix3 a b k) := by
  rw [V0]
  refine (cast_at _ _).trans ?_
  exact at_eq _ (Fin.ext ha.symm) (Fin.ext hb.symm) (Fin.ext hk.symm)

/-- An entry of the stream's block at a grid point. -/
theorem rd0 (c : Dev nD) (t : Fin cfg0.N) (r : Fin 1024) (n : Fin 1024) (a : Fin 8) (b : Fin 4096)
    (ha : a.val = (t.val * 1024 + r.val) / 4096) (hb : b.val = (t.val * 1024 + r.val) % 4096) :
    (show FVec Ideal S1024x1024 .f32 from iblk m c 0 t) (ix2 r n)
      = (show FVec Ideal Cert.Reference2Ideal.S8x4096x1024 .f32 from m ((c.tc : Thread nD τ).loc main_arg0)) (ix3 a b n) := by
  have ht : t.val < 32 := t.isLt
  have e : (show FVec Ideal S1024x1024 .f32 from iblk m c 0 t) (ix2 r n)
      = (show FVec Ideal S32768x1024 .f32 from V m c main_v0) (ix2 ⟨t.val * 1024 + r.val, by omega⟩ n) := by
    blk_ext [iblk, idx t]
  rw [e]
  exact rdV m c _ a b n ha hb rfl

/-- An entry of the eight rows before a tile that does not start the array. -/
theorem rd1 (c : Dev nD) (t : Fin cfg0.N) (h : 0 < t.val) (r : Fin 8) (n : Fin 1024) (a : Fin 8) (b : Fin 4096)
    (ha : a.val = (t.val * 1024 - 8 + r.val) / 4096) (hb : b.val = (t.val * 1024 - 8 + r.val) % 4096) :
    (show FVec Ideal S8x1024 .f32 from iblk m c 1 t) (ix2 r n)
      = (show FVec Ideal Cert.Reference2Ideal.S8x4096x1024 .f32 from m ((c.tc : Thread nD τ).loc main_arg0)) (ix3 a b n) := by
  have ht : t.val < 32 := t.isLt
  have e : (show FVec Ideal S8x1024 .f32 from iblk m c 1 t) (ix2 r n)
      = (show FVec Ideal S32768x1024 .f32 from V m c main_v0) (ix2 ⟨t.val * 1024 - 8 + r.val, by omega⟩ n) := by
    blk_ext [iblk, idx t]
  rw [e]
  exact rdV m c _ a b n ha hb rfl

/-- An entry of the eight rows after a tile that does not end the array. -/
theorem rd2 (c : Dev nD) (t : Fin cfg0.N) (h : t.val < 31) (r : Fin 8) (n : Fin 1024) (a : Fin 8) (b : Fin 4096)
    (ha : a.val = ((t.val + 1) * 1024 + r.val) / 4096) (hb : b.val = ((t.val + 1) * 1024 + r.val) % 4096) :
    (show FVec Ideal S8x1024 .f32 from iblk m c 2 t) (ix2 r n)
      = (show FVec Ideal Cert.Reference2Ideal.S8x4096x1024 .f32 from m ((c.tc : Thread nD τ).loc main_arg0)) (ix3 a b n) := by
  have ht : t.val < 32 := t.isLt
  have e : (show FVec Ideal S8x1024 .f32 from iblk m c 2 t) (ix2 r n)
      = (show FVec Ideal S32768x1024 .f32 from V m c main_v0) (ix2 ⟨(t.val + 1) * 1024 + r.val, by omega⟩ n) := by
    blk_ext [iblk, idx t]
  rw [e]
  exact rdV m c _ a b n ha hb rfl

/-- The gain as the body reads it. -/
theorem rd3 (c : Dev nD) (t : Fin cfg0.N) (k : Fin 1024) : (show FVec Ideal S1x1024 .f32 from iblk m c 3 t) (ix2 0 k)
    = (show FVec Ideal S1x1024 .f32 from m ((c.tc : Thread nD τ).loc main_arg1)) (ix2 0 k) := by
  blk_point [iblk, V, idx t]

/-- The weights of the projection as the body reads them. -/
theorem rd4 (c : Dev nD) (t : Fin cfg0.N) (k : Fin 1024) (j : Fin 5632) : (show FVec Ideal S1024x5632 .bf16 from iblk m c 4 t) (ix2 k j)
    = (show FVec Ideal S1x1024x5632 .f32 from m ((c.tc : Thread nD τ).loc main_arg2)) (ix3 0 k j) := by
  blk_point [iblk, V, idx t]

/-- The convolution's weights as the body reads them. -/
theorem rd5 (c : Dev nD) (t : Fin cfg0.N) (k : Fin 3) (j : Fin 2816) : (show FVec Ideal S3x2816 .f32 from iblk m c 5 t) (ix2 k j)
    = (show FVec Ideal S1x3x2816 .f32 from m ((c.tc : Thread nD τ).loc main_arg3)) (ix3 0 k j) := by
  blk_point [iblk, V, idx t]

/-- The convolution's bias as the body reads it. -/
theorem rd6 (c : Dev nD) (t : Fin cfg0.N) (j : Fin 2816) : (show FVec Ideal S1x2816 .f32 from iblk m c 6 t) (ix2 0 j)
    = (show FVec Ideal S1x2816 .f32 from m ((c.tc : Thread nD τ).loc main_arg4)) (ix2 0 j) := by
  blk_point [iblk, V, idx t]

/-- The second projection's weights as the body reads them. -/
theorem rd7 (c : Dev nD) (t : Fin cfg0.N) (j : Fin 2816) (k : Fin 1024) : (show FVec Ideal S2816x1024 .bf16 from iblk m c 7 t) (ix2 j k)
    = (show FVec Ideal S1x2816x1024 .f32 from m ((c.tc : Thread nD τ).loc main_arg5)) (ix3 0 j k) := by
  blk_point [iblk, V, idx t]

/-- The last gain as the body reads it. -/
theorem rd8 (c : Dev nD) (t : Fin cfg0.N) (k : Fin 1024) : (show FVec Ideal S1x1024 .f32 from iblk m c 8 t) (ix2 0 k)
    = (show FVec Ideal S1024 .f32 from m ((c.tc : Thread nD τ).loc main_arg6)) (ix1 k) := by
  blk_point [iblk, V, idx t]

/-- Equal rows, gains and columns, equal projections. -/
theorem up_eq {x x' g g' w w' : Fin 1024 → EReal} (hx : ∀ k, x k = x' k) (hg : ∀ k, g k = g' k) (hw : ∀ k, w k = w' k) : up x g w = up x' g' w' := by
  rw [funext hx, funext hg, funext hw]

/-- The projection of the position before, as the body takes it from its blocks, is the reference's. -/
theorem prev_ok (c : Dev nD) (t : Fin cfg0.N) (r : Fin 1024) (j : Fin 2816) (b : Fin 8) (s : Fin 4096)
    (hb : b.val = (t.val * 1024 + r.val) / 4096) (hs : s.val = (t.val * 1024 + r.val) % 4096) :
    prev (atStart (grid0.coords t)) (fun r k => (show FVec Ideal S1024x1024 .f32 from iblk m c 0 t) (ix2 r k))
        (fun r k => (show FVec Ideal S8x1024 .f32 from iblk m c 1 t) (ix2 r k)) (fun k => (show FVec Ideal S1x1024 .f32 from iblk m c 3 t) (ix2 0 k))
        (fun k => (show FVec Ideal S1024x5632 .bf16 from iblk m c 4 t) (ix2 k ⟨j.val, by omega⟩)) r
      = if h : s.val < 1 then 0 else up (fun k => (show FVec Ideal Cert.Reference2Ideal.S8x4096x1024 .f32 from m ((c.tc : Thread nD τ).loc main_arg0)) (ix3 b ⟨s.val - 1, by omega⟩ k))
          (fun k => (show FVec Ideal S1x1024 .f32 from m ((c.tc : Thread nD τ).loc main_arg1)) (ix2 0 k))
          (fun k => (show FVec Ideal S1x1024x5632 .f32 from m ((c.tc : Thread nD τ).loc main_arg2)) (ix3 0 k ⟨j.val, by omega⟩)) := by
  have ht : t.val < 32 := t.isLt
  unfold prev
  rw [start_eq]
  by_cases hr : r.val = 0
  · rw [dif_pos hr]
    by_cases h4 : t.val % 4 = 0
    · rw [if_pos h4, if_pos rfl, dif_pos (by omega)]
    · rw [if_neg h4, if_neg (by decide), dif_neg (by omega)]
      exact up_eq (fun k => rd1 m c t (by omega) _ _ _ _ (by change b.val = (t.val * 1024 - 8 + 7) / 4096; omega) (by change s.val - 1 = (t.val * 1024 - 8 + 7) % 4096; omega)) (rd3 m c t) (fun k => rd4 m c t k _)
  · rw [dif_neg hr, dif_neg (by omega)]
    exact up_eq (fun k => rd0 m c t _ _ _ _ (by change b.val = (t.val * 1024 + (r.val - 1)) / 4096; omega) (by change s.val - 1 = (t.val * 1024 + (r.val - 1)) % 4096; omega)) (rd3 m c t) (fun k => rd4 m c t k _)

/-- The projection of the position after, as the body takes it from its blocks, is the reference's. -/
theorem next_ok (c : Dev nD) (t : Fin cfg0.N) (r : Fin 1024) (j : Fin 2816) (b : Fin 8) (s : Fin 4096)
    (hb : b.val = (t.val * 1024 + r.val) / 4096) (hs : s.val = (t.val * 1024 + r.val) % 4096) :
    next (atEnd (grid0.coords t)) (fun r k => (show FVec Ideal S1024x1024 .f32 from iblk m c 0 t) (ix2 r k))
        (fun r k => (show FVec Ideal S8x1024 .f32 from iblk m c 2 t) (ix2 r k)) (fun k => (show FVec Ideal S1x1024 .f32 from iblk m c 3 t) (ix2 0 k))
        (fun k => (show FVec Ideal S1024x5632 .bf16 from iblk m c 4 t) (ix2 k ⟨j.val, by omega⟩)) r
      = if h : s.val < 4095 then up (fun k => (show FVec Ideal Cert.Reference2Ideal.S8x4096x1024 .f32 from m ((c.tc : Thread nD τ).loc main_arg0)) (ix3 b ⟨1 + s.val, by omega⟩ k))
          (fun k => (show FVec Ideal S1x1024 .f32 from m ((c.tc : Thread nD τ).loc main_arg1)) (ix2 0 k))
          (fun k => (show FVec Ideal S1x1024x5632 .f32 from m ((c.tc : Thread nD τ).loc main_arg2)) (ix3 0 k ⟨j.val, by omega⟩)) else 0 := by
  have ht : t.val < 32 := t.isLt
  unfold next
  rw [end_eq]
  by_cases hr : r.val = 1023
  · rw [dif_pos hr]
    by_cases h4 : t.val % 4 = 3
    · rw [if_pos h4, if_pos rfl, dif_neg (by omega)]
    · rw [if_neg h4, if_neg (by decide), dif_pos (by omega)]
      exact up_eq (fun k => rd2 m c t (by omega) _ _ _ _ (by change b.val = ((t.val + 1) * 1024 + 0) / 4096; omega) (by change 1 + s.val = ((t.val + 1) * 1024 + 0) % 4096; omega)) (rd3 m c t) (fun k => rd4 m c t k _)
  · rw [dif_neg hr, dif_pos (by omega)]
    exact up_eq (fun k => rd0 m c t _ _ _ _ (by change b.val = (t.val * 1024 + (r.val + 1)) / 4096; omega) (by change 1 + s.val = (t.val * 1024 + (r.val + 1)) % 4096; omega)) (rd3 m c t) (fun k => rd4 m c t k _)

/-- The call's result array is the reference. -/
theorem final (c : Dev nD) :
    (dats m 0 c).arrAt 9 (cfgs 0).N = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  refine (dats m 0 c).arrAt_eq_of_covers 9 _ (by decide +kernel) fun t _ y => ?_
  have ht : t.val < 32 := t.isLt
  have hy : (y 0).val < 1024 := (y 0).isLt
  have hb : (t.val * 1024 + (y 0).val) / 4096 < 8 := by omega
  have hs : (t.val * 1024 + (y 0).val) % 4096 < 4096 := by omega
  blk_simp
  rw [after0_9]
  refine (out_at _ _ _ _ _ _ _ _ _ _ y).trans (Eq.trans ?_ (ref_at _ _ _ _ _ _ _ _ ⟨_, hb⟩ ⟨_, hs⟩ ?_ ?_).symm)
  · refine spec_eq ?_ ?_ ?_ ?_ ?_ ?_ ?_ ?_ ?_ ?_ ?_ ?_
    · exact funext fun k => rd0 m c t _ k _ _ rfl rfl
    · exact funext fun j => prev_ok m c t _ j _ _ rfl rfl
    · exact funext fun j => up_eq (fun k => rd0 m c t _ _ _ _ rfl rfl) (rd3 m c t) (fun k => rd4 m c t k _)
    · exact funext fun j => next_ok m c t _ j _ _ rfl rfl
    · exact funext fun j => up_eq (fun k => rd0 m c t _ _ _ _ rfl rfl) (rd3 m c t) (fun k => rd4 m c t k _)
    · exact funext fun j => rd5 m c t 0 j
    · exact funext fun j => rd5 m c t 1 j
    · exact funext fun j => rd5 m c t 2 j
    · exact funext fun j => rd6 m c t j
    · exact funext fun j => funext fun k => rd7 m c t j k
    · exact funext fun k => rd8 m c t k
    · refine Fin.ext ?_
      blk_simp [idx t] <;> try omega
  all_goals (blk_simp [idx t] <;> try omega)

end Cert.FfnProof
-- ==== Proof.InProjRef.lean ====
/-
  The reference of the input projection in stages, and each stage read at an index.
-/
module

public import proofs.«01_k».proof.Proof.Gen.Reference3Ideal.Run
public import Idealize.ShloMosaic.Lib.Pipeline.ValueKit
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.InProjProof
section
open Cert.Reference3Ideal Cert.Reference3Ideal.Gen

/-- The normalised stream. -/
def U (x0 : FVec Ideal S8x4096x1024 .f32) (x1 : FVec Ideal S1x1024 .f32) : FVec Ideal S8x4096x1024 .f32 :=
  mulf (mulf x0 (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x0 x0) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ x1 shapeCasts_S1x1024_S1024)))

/-- The projection to all columns. -/
def P (u : FVec Ideal S8x4096x1024 .f32) (x2 : FVec Ideal S1x1024x11280 .f32) : FVec Ideal S8x4096x11280 .f32 :=
  Host.dotGeneral dot_S8x4096x1024_S1024x11280_S8x4096x11280_2_0_01_1_n_n none u (shapeCast _ x2 shapeCasts_S1x1024x11280_S1024x11280)

/-- The running sums of the softmax of the bounds over the layers. -/
def LB (x3 : FVec Ideal S2x2x1024 .f32) : FVec Ideal S2x2x1024 .f32 :=
  Host.reduceWindowAdd ![1, 2, 1] ![1, 1, 1] ![0, 1, 0] ![0, 0, 0] (Host.divf (Host.exp (subf x3 (broadcastInDim S2x2x1024 ![0, 1, 2] bcast_S2x1x1024_S2x2x1024_0_1_2 (broadcastInDim S2x1x1024 ![0, 2] bcast_S2x1024_S2x1x1024_0_2 (maximumf (broadcastInDim S2x1024 ![] bcast_S_S2x1024 (constant S_ .f32 0xFF800000#32)) (Host.reduce FloatOps.maximumf x3 (constant S_ .f32 0xFF800000#32) reducesTo_S2x2x1024_S2x1024_d1 h_S_)))))) (broadcastInDim S2x2x1024 ![0, 1, 2] bcast_S2x1x1024_S2x2x1024_0_1_2 (broadcastInDim S2x1x1024 ![0, 2] bcast_S2x1024_S2x1x1024_0_2 (Host.reduceAdd (Host.exp (subf x3 (broadcastInDim S2x2x1024 ![0, 1, 2] bcast_S2x1x1024_S2x2x1024_0_1_2 (broadcastInDim S2x1x1024 ![0, 2] bcast_S2x1024_S2x1x1024_0_2 (maximumf (broadcastInDim S2x1024 ![] bcast_S_S2x1024 (constant S_ .f32 0xFF800000#32)) (Host.reduce FloatOps.maximumf x3 (constant S_ .f32 0xFF800000#32) reducesTo_S2x2x1024_S2x1024_d1 h_S_)))))) (constant S_ .f32 0x00000000#32) reducesTo_S2x2x1024_S2x1024_d1 h_S_)))) (broadcastInDim S_ ![] bcast_S_S_ (constant S_ .f32 0x00000000#32)) reduceWindows_S2x2x1024_S2x2x1024_w1s1p0_0_w2s1p1_0_w1s1p0_0 h_S_

/-- The columns that are multiplied by their logistic function. -/
def QQ (z : FVec Ideal S8x4096x11280 .f32) : FVec Ideal S8x4096x1024 .f32 :=
  mulf (extractStridedSlice S8x4096x1024 ![0, 0, 4112] z slices_S8x4096x11280_S8x4096x1024_0_0_4112) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 4112] z slices_S8x4096x11280_S8x4096x1024_0_0_4112)))))

/-- The forward gate: the logistic function above its lower bound. -/
def FF (z : FVec Ideal S8x4096x11280 .f32) (l : FVec Ideal S2x2x1024 .f32) : FVec Ideal S8x4096x1024 .f32 :=
  addf (broadcastInDim S8x4096x1024 ![0, 1, 2] bcast_S1x1x1024_S8x4096x1024_0_1_2 (broadcastInDim S1x1x1024 ![2] bcast_S1024_S1x1x1024_2 (shapeCast _ (extractStridedSlice S1x1024 ![0, 0] (shapeCast _ (extractStridedSlice S2x1x1024 ![0, 0, 0] l slices_S2x2x1024_S2x1x1024_0_0_0) shapeCasts_S2x1x1024_S2x1024) slices_S2x1024_S1x1024_0_0) shapeCasts_S1x1024_S1024))) (mulf (broadcastInDim S8x4096x1024 ![0, 1, 2] bcast_S1x1x1024_S8x4096x1024_0_1_2 (broadcastInDim S1x1x1024 ![2] bcast_S1024_S1x1x1024_2 (subf (broadcastInDim S1024 ![] bcast_S_S1024 (constant S_ .f32 0x3F800000#32)) (shapeCast _ (extractStridedSlice S1x1024 ![0, 0] (shapeCast _ (extractStridedSlice S2x1x1024 ![0, 0, 0] l slices_S2x2x1024_S2x1x1024_0_0_0) shapeCasts_S2x1x1024_S2x1024) slices_S2x1024_S1x1024_0_0) shapeCasts_S1x1024_S1024)))) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 5136] z slices_S8x4096x11280_S8x4096x1024_0_0_5136))))))

/-- The backward gate. -/
def FB (z : FVec Ideal S8x4096x11280 .f32) (l : FVec Ideal S2x2x1024 .f32) : FVec Ideal S8x4096x1024 .f32 :=
  addf (broadcastInDim S8x4096x1024 ![0, 1, 2] bcast_S1x1x1024_S8x4096x1024_0_1_2 (broadcastInDim S1x1x1024 ![2] bcast_S1024_S1x1x1024_2 (shapeCast _ (extractStridedSlice S1x1024 ![1, 0] (shapeCast _ (extractStridedSlice S2x1x1024 ![0, 0, 0] l slices_S2x2x1024_S2x1x1024_0_0_0) shapeCasts_S2x1x1024_S2x1024) slices_S2x1024_S1x1024_1_0) shapeCasts_S1x1024_S1024))) (mulf (broadcastInDim S8x4096x1024 ![0, 1, 2] bcast_S1x1x1024_S8x4096x1024_0_1_2 (broadcastInDim S1x1x1024 ![2] bcast_S1024_S1x1x1024_2 (subf (broadcastInDim S1024 ![] bcast_S_S1024 (constant S_ .f32 0x3F800000#32)) (shapeCast _ (extractStridedSlice S1x1024 ![1, 0] (shapeCast _ (extractStridedSlice S2x1x1024 ![0, 0, 0] l slices_S2x2x1024_S2x1x1024_0_0_0) shapeCasts_S2x1x1024_S2x1024) slices_S2x1024_S1x1024_1_0) shapeCasts_S1x1024_S1024)))) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 6160] z slices_S8x4096x11280_S8x4096x1024_0_0_6160))))))

/-- The sixteen gate columns, in four groups padded with zeros. -/
def WG (z : FVec Ideal S8x4096x11280 .f32) : FVec Ideal S8x4096x512 .f32 :=
  shapeCast _ (concatenate S8x4096x4x128 3 [⟨S8x4096x4x4, (transpose S8x4096x4x4 [0, 1, 3, 2] (shapeCast _ (extractStridedSlice S8x4096x16 ![0, 0, 4096] z slices_S8x4096x11280_S8x4096x16_0_0_4096) shapeCasts_S8x4096x16_S8x4096x4x4) transposes_S8x4096x4x4_S8x4096x4x4_0_1_3_2)⟩, ⟨S8x4096x4x124, (broadcastInDim S8x4096x4x124 ![] bcast_S_S8x4096x4x124 (constant S_ .f32 0x00000000#32))⟩] concatenates_S8x4096x4x4_S8x4096x4x124_S8x4096x4x128_d3) shapeCasts_S8x4096x4x128_S8x4096x512

/-- The columns of the first result. -/
def R16 (z : FVec Ideal S8x4096x11280 .f32) (q : FVec Ideal S8x4096x1024 .f32) : FVec Ideal S32768x9216 .bf16 :=
  truncf .bf16 (shapeCast _ ((concatenate S8x4096x9216 2 [⟨S8x4096x4096, ((extractStridedSlice S8x4096x4096 ![0, 0, 0] z slices_S8x4096x11280_S8x4096x4096_0_0_0) : (⟨S8x4096x4096, .f32⟩ : BufTy).Contents (Elt Ideal))⟩, ⟨S8x4096x1024, (q : (⟨S8x4096x1024, .f32⟩ : BufTy).Contents (Elt Ideal))⟩, ⟨S8x4096x2048, ((extractStridedSlice S8x4096x2048 ![0, 0, 7184] z slices_S8x4096x11280_S8x4096x2048_0_0_7184) : (⟨S8x4096x2048, .f32⟩ : BufTy).Contents (Elt Ideal))⟩, ⟨S8x4096x2048, ((extractStridedSlice S8x4096x2048 ![0, 0, 9232] z slices_S8x4096x11280_S8x4096x2048_0_0_9232) : (⟨S8x4096x2048, .f32⟩ : BufTy).Contents (Elt Ideal))⟩] concatenates_S8x4096x4096_S8x4096x1024_S8x4096x2048_S8x4096x2048_S8x4096x9216_d2 : (⟨S8x4096x9216, .f32⟩ : BufTy).Contents (Elt Ideal))) shapeCasts_S8x4096x9216_S32768x9216) bitsLt_bf16_f32

/-- The columns of the second result. -/
def R32 (a b : FVec Ideal S8x4096x1024 .f32) (w : FVec Ideal S8x4096x512 .f32) : FVec Ideal S32768x2560 .f32 :=
  shapeCast _ ((concatenate S8x4096x2560 2 [⟨S8x4096x1024, (a : (⟨S8x4096x1024, .f32⟩ : BufTy).Contents (Elt Ideal))⟩, ⟨S8x4096x1024, (b : (⟨S8x4096x1024, .f32⟩ : BufTy).Contents (Elt Ideal))⟩, ⟨S8x4096x512, (w : (⟨S8x4096x512, .f32⟩ : BufTy).Contents (Elt Ideal))⟩] concatenates_S8x4096x1024_S8x4096x1024_S8x4096x512_S8x4096x2560_d2 : (⟨S8x4096x2560, .f32⟩ : BufTy).Contents (Elt Ideal))) shapeCasts_S8x4096x2560_S32768x2560

/-- The first result of the whole reference. -/
def REF16 (x0 : FVec Ideal S8x4096x1024 .f32) (x1 : FVec Ideal S1x1024 .f32) (x2 : FVec Ideal S1x1024x11280 .f32) : FVec Ideal S32768x9216 .bf16 :=
  R16 (P (U x0 x1) x2) (QQ (P (U x0 x1) x2))

/-- The second result of the whole reference. -/
def REF32 (x0 : FVec Ideal S8x4096x1024 .f32) (x1 : FVec Ideal S1x1024 .f32) (x2 : FVec Ideal S1x1024x11280 .f32) (x3 : FVec Ideal S2x2x1024 .f32) : FVec Ideal S32768x2560 .f32 :=
  R32 (FF (P (U x0 x1) x2) (LB x3)) (FB (P (U x0 x1) x2) (LB x3)) (WG (P (U x0 x1) x2))

/-- The reference's run ends with `REF16` of its arguments. -/
theorem ref_run16 (m : (ℓ : Loc nD τ sig) → Buf (Elt Ideal) ℓ) (c : Dev nD) :
    Cert.Reference3Ideal.Value.res_main_v82 m c = REF16 (m ((c.tc : Thread nD τ).loc main_arg0)) (m ((c.tc : Thread nD τ).loc main_arg1)) (m ((c.tc : Thread nD τ).loc main_arg2)) := rfl

/-- The reference's run ends with `REF32` of its arguments. -/
theorem ref_run32 (m : (ℓ : Loc nD τ sig) → Buf (Elt Ideal) ℓ) (c : Dev nD) :
    Cert.Reference3Ideal.Value.res_main_v83 m c = REF32 (m ((c.tc : Thread nD τ).loc main_arg0)) (m ((c.tc : Thread nD τ).loc main_arg1)) (m ((c.tc : Thread nD τ).loc main_arg2)) (m ((c.tc : Thread nD τ).loc main_arg3)) := rfl

/-- The logistic function. -/
def sg (v : EReal) : EReal := Ideal.div 1 (1 + Ideal.exp (-v))

/-- An entry of the normalised stream. -/
theorem U_at (x0 x1) (b : Fin 8) (s : Fin 4096) (n : Fin 1024) :
    U x0 x1 (ix3 b s n) = Cert.Common.rms (fun k => x0 (ix3 b s k)) (fun k => x1 (ix2 0 k)) n := by
  pointwise [U]
  rfl

/-- An entry of the projection. -/
theorem P_at (u x2) (b : Fin 8) (s : Fin 4096) (j : Fin 11280) :
    P u x2 (ix3 b s j) = ∑ k : Fin 1024, u (ix3 b s k) * x2 (ix3 0 k j) := by
  pointwise [P]

/-- An entry of the columns multiplied by their logistic function. -/
theorem QQ_at (z) (b : Fin 8) (s : Fin 4096) (j : Fin 1024) :
    QQ z (ix3 b s j) = z (ix3 b s ⟨4112 + j.val, by omega⟩) * sg (z (ix3 b s ⟨4112 + j.val, by omega⟩)) := by
  pointwise [QQ]
  rfl

/-- An entry of the forward gate. -/
theorem FF_at (z l) (b : Fin 8) (s : Fin 4096) (j : Fin 1024) :
    FF z l (ix3 b s j) = l (ix3 0 0 j) + (1 - l (ix3 0 0 j)) * sg (z (ix3 b s ⟨5136 + j.val, by omega⟩)) := by
  pointwise [FF]
  rfl

/-- An entry of the backward gate. -/
theorem FB_at (z l) (b : Fin 8) (s : Fin 4096) (j : Fin 1024) :
    FB z l (ix3 b s j) = l (ix3 1 0 j) + (1 - l (ix3 1 0 j)) * sg (z (ix3 b s ⟨6160 + j.val, by omega⟩)) := by
  pointwise [FB]
  rfl

/-- An entry of the padded gate columns. -/
theorem WG_at (z) (b : Fin 8) (s : Fin 4096) (j : Fin 512) :
    WG z (ix3 b s j) = if h : j.val % 128 < 4 then z (ix3 b s ⟨4096 + (j.val % 128 * 4 + j.val / 128), by omega⟩) else 0 := by
  pointwise [WG]

/-- The bound of a gate column, the forward gate's columns first. -/
def lbr (l : Fin 2 → Fin 1024 → EReal) (n : Fin 2560) : EReal :=
  if h : n.val < 1024 then l 0 ⟨n.val, h⟩ else if h : n.val - 1024 < 1024 then l 1 ⟨n.val - 1024, h⟩ else 0

/-- The weight column behind a column of the first result. -/
def col16 (w : Fin 11280 → EReal) (n : Fin 9216) : EReal :=
  if h : n.val < 4096 then w ⟨n.val, by omega⟩
  else if h : n.val - 4096 < 1024 then w ⟨4112 + (n.val - 4096), by omega⟩
  else if h : n.val - 4096 - 1024 < 2048 then w ⟨7184 + (n.val - 4096 - 1024), by omega⟩
  else w ⟨9232 + (n.val - 4096 - 1024 - 2048), by omega⟩

/-- The weight column behind a column of the second result; a column of the padding has zeros. -/
def col32 (w : Fin 11280 → EReal) (n : Fin 2560) : EReal :=
  if h : n.val < 1024 then w ⟨5136 + n.val, by omega⟩
  else if h : n.val - 1024 < 1024 then w ⟨6160 + (n.val - 1024), by omega⟩
  else if h : (n.val - 1024 - 1024) % 128 < 4 then w ⟨4096 + ((n.val - 1024 - 1024) % 128 * 4 + (n.val - 1024 - 1024) / 128), by omega⟩ else 0

/-- A normalised row against one column of the weights. -/
def pre (x g w : Fin 1024 → EReal) : EReal := ∑ k, Cert.Common.rms x g k * w k

/-- What becomes of a projected column of the first result. -/
def act16 (n : Fin 9216) (v : EReal) : EReal := if 4096 ≤ n.val ∧ n.val < 5120 then v * sg v else v

/-- What becomes of a projected column of the second result, the bound being `l`. -/
def act32 (n : Fin 2560) (l v : EReal) : EReal := if n.val < 2048 then l + (1 - l) * sg v else v

/-- A column of zeros projects to zero. -/
theorem pre_zero (x g : Fin 1024 → EReal) : pre x g (fun _ => 0) = 0 := by
  unfold pre
  simp

/-- An entry of the first result. -/
theorem R16_at (z q) (i : S32768x9216.Idx) :
    R16 z q i = if h : (i 1).val < 4096 then z (ix3 ⟨(i 0).val / 4096, by idx_bounds; omega⟩ ⟨(i 0).val % 4096, by omega⟩ ⟨(i 1).val, by omega⟩)
      else if h : (i 1).val - 4096 < 1024 then q (ix3 ⟨(i 0).val / 4096, by idx_bounds; omega⟩ ⟨(i 0).val % 4096, by omega⟩ ⟨(i 1).val - 4096, h⟩)
      else if h : (i 1).val - 4096 - 1024 < 2048 then z (ix3 ⟨(i 0).val / 4096, by idx_bounds; omega⟩ ⟨(i 0).val % 4096, by omega⟩ ⟨7184 + ((i 1).val - 4096 - 1024), by omega⟩)
      else z (ix3 ⟨(i 0).val / 4096, by idx_bounds; omega⟩ ⟨(i 0).val % 4096, by omega⟩ ⟨9232 + ((i 1).val - 4096 - 1024 - 2048), by idx_bounds; omega⟩) := by
  pointwise [R16]

/-- An entry of the second result. -/
theorem R32_at (a b w) (i : S32768x2560.Idx) :
    R32 a b w i = if h : (i 1).val < 1024 then a (ix3 ⟨(i 0).val / 4096, by idx_bounds; omega⟩ ⟨(i 0).val % 4096, by omega⟩ ⟨(i 1).val, h⟩)
      else if h : (i 1).val - 1024 < 1024 then b (ix3 ⟨(i 0).val / 4096, by idx_bounds; omega⟩ ⟨(i 0).val % 4096, by omega⟩ ⟨(i 1).val - 1024, h⟩)
      else w (ix3 ⟨(i 0).val / 4096, by idx_bounds; omega⟩ ⟨(i 0).val % 4096, by omega⟩ ⟨(i 1).val - 1024 - 1024, by idx_bounds; omega⟩) := by
  pointwise [R32]

/-- An entry of the projection of the normalised stream. -/
theorem PU_at (x0 x1 x2) (b : Fin 8) (s : Fin 4096) (j : Fin 11280) :
    P (U x0 x1) x2 (ix3 b s j) = pre (fun k => x0 (ix3 b s k)) (fun k => x1 (ix2 0 k)) (fun k => x2 (ix3 0 k j)) := by
  rw [P_at]
  simp only [U_at]
  rfl

/-- An entry of the first result, from the arguments. -/
theorem REF16_at (x0 x1 x2) (i : S32768x9216.Idx) :
    REF16 x0 x1 x2 i = act16 (i 1) (pre (fun k => x0 (ix3 ⟨(i 0).val / 4096, by idx_bounds; omega⟩ ⟨(i 0).val % 4096, by omega⟩ k)) (fun k => x1 (ix2 0 k))
      (fun k => col16 (fun j => x2 (ix3 0 k j)) (i 1))) := by
  have hn : (i 1).val < 9216 := (i 1).isLt
  unfold REF16
  rw [R16_at]
  unfold act16 col16
  by_cases h1 : (i 1).val < 4096
  · rw [if_neg (by omega), dif_pos h1]; simp only [dif_pos h1]; rw [PU_at]
  by_cases h2 : (i 1).val - 4096 < 1024
  · rw [if_pos (by omega), dif_neg h1, dif_pos h2]; simp only [dif_neg h1, dif_pos h2]; rw [QQ_at, PU_at]
  by_cases h3 : (i 1).val - 4096 - 1024 < 2048
  · rw [if_neg (by omega), dif_neg h1, dif_neg h2, dif_pos h3]; simp only [dif_neg h1, dif_neg h2, dif_pos h3]; rw [PU_at]
  · rw [if_neg (by omega), dif_neg h1, dif_neg h2, dif_neg h3]; simp only [dif_neg h1, dif_neg h2, dif_neg h3]; rw [PU_at]

/-- An entry of the second result, from the arguments. -/
theorem REF32_at (x0 x1 x2 x3) (i : S32768x2560.Idx) :
    REF32 x0 x1 x2 x3 i = act32 (i 1) (lbr (fun a j => LB x3 (ix3 a 0 j)) (i 1))
      (pre (fun k => x0 (ix3 ⟨(i 0).val / 4096, by idx_bounds; omega⟩ ⟨(i 0).val % 4096, by omega⟩ k)) (fun k => x1 (ix2 0 k))
        (fun k => col32 (fun j => x2 (ix3 0 k j)) (i 1))) := by
  have hn : (i 1).val < 2560 := (i 1).isLt
  unfold REF32
  rw [R32_at]
  unfold act32 col32 lbr
  by_cases h1 : (i 1).val < 1024
  · rw [if_pos (by omega), dif_pos h1, dif_pos h1]; simp only [dif_pos h1]; rw [FF_at, PU_at]
  by_cases h2 : (i 1).val - 1024 < 1024
  · rw [if_pos (by omega), dif_neg h1, dif_neg h1, dif_pos h2, dif_pos h2]; simp only [dif_neg h1, dif_pos h2]; rw [FB_at, PU_at]
  rw [if_neg (by omega), dif_neg h1, dif_neg h2]; simp only [dif_neg h1, dif_neg h2]; rw [WG_at]
  by_cases h3 : ((i 1).val - 1024 - 1024) % 128 < 4
  · rw [dif_pos h3]; simp only [dif_pos h3]; rw [PU_at]
  · rw [dif_neg h3]; simp only [dif_neg h3]; rw [pre_zero]

end
end Cert.InProjProof
-- ==== Proof.InProj.lean ====
/-
  The call that projects the normalised stream: the host puts the weights' columns in the kernel's order, with a padded group of gate columns,
  and the kernel works 512 rows and 512 columns at a time. Some columns are multiplied by their logistic function, the gate columns become a
  logistic function above a lower bound, the others stay as projected. `final16` and `final32` say that the two result arrays are the
  reference's, entry by entry, for any inputs.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.StableHlo.RunRead
public import proofs.«01_k».proof.Proof.Common
public import proofs.«01_k».proof.Proof.InProjRef

@[expose] public section

set_option maxRecDepth 16384

noncomputable section

open Idealize.ShloMosaic Idealize.ShloMosaic.TcCoe Idealize.SL.Sem
open Idealize.ShloMosaic.Pipeline (Dat)

namespace Cert.InProjProof
open Cert.Kernel3Ideal Cert.Kernel3Ideal.Gen

/-- One tile of 512 projected columns. -/
def tile (x0 : Vec Ideal S512x1024 .f32) (x1 : Vec Ideal S1x1024 .f32) (w : Vec Ideal S1024x512 .bf16) : FVec Ideal S512x512 .f32 :=
  matmul dot_S512x1024_S1024x512_S512x512_1_0_0_1_n_n none (k0_pay3 x0 x1) (shapeCast S1024x512 w shapeCasts_S1024x512_S1024x512 : FVec Ideal S1024x512 .bf16) (constant S512x512 .f32 0x00000000#32)

/-- An entry of the normalised rows. -/
theorem pay3_at (x0 x1) (r : Fin 512) (k : Fin 1024) :
    k0_pay3 (F := Ideal) x0 x1 (ix2 r k) = Cert.Common.rms (fun k => x0 (ix2 r k)) (fun k => x1 (ix2 0 k)) k := by
  pointwise [k0_pay3]
  rfl

/-- An entry of a tile. -/
theorem tile_at (x0 x1 w) (x : S512x512.Idx) :
    tile x0 x1 w x = pre (fun k => x0 (ix2 (x 0) k)) (fun k => x1 (ix2 0 k)) (fun k => w (ix2 k (x 1))) := by
  have h : tile x0 x1 w x = ∑ k : Fin 1024, k0_pay3 (F := Ideal) x0 x1 (ix2 (x 0) k) * w (ix2 k (x 1)) := by pointwise [tile]
  exact h.trans (Finset.sum_congr rfl fun k _ => congrArg (· * w (ix2 k (x 1))) (pay3_at x0 x1 (x 0) k))

/-- A slice of the weights at an index. -/
theorem ld_w (b : Vec Ideal S1024x11776 .bf16) (off) (inb) (k : Fin 1024) (j : Fin 512) (n : Fin 11776) (h : n.val = off + j.val) :
    View.ld b (Rect.unit (s := S1024x11776) ![0, off] S1024x512.size inb) (ix2 k j) = b (ix2 k n) := by
  refine View.ld_unit_apply_of _ _ _ _ _ _ fun a => ?_
  fin_cases a
  · exact (Nat.zero_add _).symm
  · exact h

/-- A slice of the bounds at an index. -/
theorem ld_l (b : Vec Ideal S1x2560 .f32) (off) (inb) (j : Fin 512) (n : Fin 2560) (h : n.val = off + j.val) :
    View.ld b (Rect.unit (s := S1x2560) ![0, off] S1x512.size inb) (ix2 0 j) = b (ix2 0 n) := by
  refine View.ld_unit_apply_of _ _ _ _ _ _ fun a => ?_
  fin_cases a
  · rfl
  · exact h

/-- An entry of the tile of the columns from `off` on. -/
theorem tile_ld (x0 x1) (x2 : Vec Ideal S1024x11776 .bf16) (off) (inb) (x : S512x512.Idx) (r : Fin 512) (n : Fin 11776) (hr : r.val = (x 0).val) (h : n.val = off + (x 1).val) :
    tile x0 x1 (View.ld x2 (Rect.unit (s := S1024x11776) ![0, off] S1024x512.size inb)) x
      = pre (fun k => x0 (ix2 r k)) (fun k => x1 (ix2 0 k)) (fun k => x2 (ix2 k n)) := by
  rw [tile_at, show x 0 = r from Fin.ext hr.symm]
  exact congrArg (pre _ _) (funext fun k => ld_w x2 off inb k (x 1) n h)

/-- A column of the first result from the projected value. -/
theorem lin16 (x0 x1) (x2 : Vec Ideal S1024x11776 .bf16) (off) (inb) (x : S512x512.Idx) (r : Fin 512) (n : Fin 9216) (hr : r.val = (x 0).val) (h : n.val = off + (x 1).val)
    (hn : ¬ (4096 ≤ n.val ∧ n.val < 5120)) :
    truncf .bf16 (tile x0 x1 (View.ld x2 (Rect.unit (s := S1024x11776) ![0, off] S1024x512.size inb))) bitsLt_bf16_f32 x
      = act16 n (pre (fun k => x0 (ix2 r k)) (fun k => x1 (ix2 0 k)) (fun k => x2 (ix2 k ⟨n.val, by omega⟩))) := by
  unfold act16
  rw [if_neg hn]
  exact tile_ld x0 x1 x2 off inb x r _ hr h

/-- A tile's logistic function, through the hyperbolic tangent. -/
def sgt (v : FVec Ideal S512x512 .f32) : FVec Ideal S512x512 .f32 :=
  addf (mulf (broadcast S512x512 (FloatOps.ofBits .f32 0x3F000000#32)) (tanh (mulf (broadcast S512x512 (FloatOps.ofBits .f32 0x3F000000#32)) v))) (broadcast S512x512 (FloatOps.ofBits .f32 0x3F000000#32))

/-- It is the logistic function. -/
theorem sgt_at (v) (x : S512x512.Idx) : sgt v x = sg (v x) := Cert.Common.sigm (v x)

/-- A column of the first result that is multiplied by its logistic function. -/
theorem silu16 (x0 x1) (x2 : Vec Ideal S1024x11776 .bf16) (off) (inb) (x : S512x512.Idx) (r : Fin 512) (n : Fin 9216) (hr : r.val = (x 0).val) (h : n.val = off + (x 1).val)
    (hn : 4096 ≤ n.val ∧ n.val < 5120) :
    truncf .bf16 (mulf (tile x0 x1 (View.ld x2 (Rect.unit (s := S1024x11776) ![0, off] S1024x512.size inb)))
        (sgt (tile x0 x1 (View.ld x2 (Rect.unit (s := S1024x11776) ![0, off] S1024x512.size inb))))) bitsLt_bf16_f32 x
      = act16 n (pre (fun k => x0 (ix2 r k)) (fun k => x1 (ix2 0 k)) (fun k => x2 (ix2 k ⟨n.val, by omega⟩))) := by
  unfold act16
  rw [if_pos hn, ← tile_ld x0 x1 x2 off inb x r ⟨n.val, by omega⟩ hr h, ← sgt_at]
  rfl

/-- A gate column of the second result. -/
theorem gate32 (x0 x1) (x2 : Vec Ideal S1024x11776 .bf16) (x3 : Vec Ideal S1x2560 .f32) (off off') (inb inb') (x : S512x512.Idx) (r : Fin 512) (n : Fin 2560) (hr : r.val = (x 0).val)
    (h' : n.val = off' + (x 1).val) (h : 9216 + n.val = off + (x 1).val) (hn : n.val < 2048) :
    addf (broadcastTo S512x512 (shapeCast S1x512 (View.ld x3 (Rect.unit (s := S1x2560) ![0, off'] S1x512.size inb')) shapeCasts_S1x512_S1x512) broadcasts_S1x512_S512x512)
        (mulf (broadcastTo S512x512 (subf (broadcast S1x512 (FloatOps.ofBits .f32 0x3F800000#32))
            (shapeCast S1x512 (View.ld x3 (Rect.unit (s := S1x2560) ![0, off'] S1x512.size inb')) shapeCasts_S1x512_S1x512)) broadcasts_S1x512_S512x512)
          (sgt (tile x0 x1 (View.ld x2 (Rect.unit (s := S1024x11776) ![0, off] S1024x512.size inb))))) x
      = act32 n (x3 (ix2 0 n)) (pre (fun k => x0 (ix2 r k)) (fun k => x1 (ix2 0 k)) (fun k => x2 (ix2 k ⟨9216 + n.val, by omega⟩))) := by
  unfold act32
  rw [if_pos hn, ← tile_ld x0 x1 x2 off inb x r ⟨9216 + n.val, by omega⟩ hr h, ← sgt_at, ← ld_l x3 off' inb' (x 1) n h']
  generalize View.ld x3 (Rect.unit (s := S1x2560) ![0, off'] S1x512.size inb') = b
  generalize sgt _ = s
  change Vec Ideal S1x512 .f32 at b
  pointwise

/-- A column of the second result that stays as projected. -/
theorem lin32 (x0 x1) (x2 : Vec Ideal S1024x11776 .bf16) (l : EReal) (off) (inb) (x : S512x512.Idx) (r : Fin 512) (n : Fin 2560) (hr : r.val = (x 0).val)
    (h : 9216 + n.val = off + (x 1).val) (hn : ¬ n.val < 2048) :
    tile x0 x1 (View.ld x2 (Rect.unit (s := S1024x11776) ![0, off] S1024x512.size inb)) x
      = act32 n l (pre (fun k => x0 (ix2 r k)) (fun k => x1 (ix2 0 k)) (fun k => x2 (ix2 k ⟨9216 + n.val, by omega⟩))) := by
  unfold act32
  rw [if_neg hn]
  exact tile_ld x0 x1 x2 off inb x r _ hr h

/-- What the body stores of the first result, from the blocks. -/
theorem out16_at (x0 x1 x2 x3) (y : S512x9216.Idx) : out0_4 (F := Ideal) x0 x1 x2 x3 y
    = act16 (y 1) (pre (fun k => x0 (ix2 (y 0) k)) (fun k => x1 (ix2 0 k)) (fun k => x2 (ix2 k ⟨(y 1).val, by idx_bounds; omega⟩))) := by
  canon_tiles x h
  all_goals open_payloads
  case piece8 => refine silu16 x0 x1 x2 _ _ x (y 0) (y 1) ?_ ?_ ?_ <;> omega
  case piece9 => refine silu16 x0 x1 x2 _ _ x (y 0) (y 1) ?_ ?_ ?_ <;> omega
  all_goals (refine lin16 x0 x1 x2 _ _ x (y 0) (y 1) ?_ ?_ ?_ <;> omega)

/-- What the body stores of the second result, from the blocks. -/
theorem out32_at (x0 x1 x2 x3) (y : S512x2560.Idx) : out0_5 (F := Ideal) x0 x1 x2 x3 y
    = act32 (y 1) (x3 (ix2 0 (y 1))) (pre (fun k => x0 (ix2 (y 0) k)) (fun k => x1 (ix2 0 k)) (fun k => x2 (ix2 k ⟨9216 + (y 1).val, by idx_bounds; omega⟩))) := by
  canon_tiles x h
  all_goals open_payloads
  case piece0 => refine lin32 x0 x1 x2 _ _ _ x (y 0) (y 1) ?_ ?_ ?_ <;> omega
  all_goals (refine gate32 x0 x1 x2 x3 _ _ _ _ x (y 0) (y 1) ?_ ?_ ?_ ?_ <;> omega)

variable (m : (ℓ : Loc nD τ sig) → Buf (Elt Ideal) ℓ)

/-- Which block of its array each window holds at a grid point. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

/-- The host's weights, the layer axis dropped. -/
def CW (w : FVec Ideal S1x1024x11280 .f32) : FVec Ideal S1024x11280 .bf16 :=
  truncf .bf16 (shapeCast S1024x11280 w shapeCasts_S1x1024x11280_S1024x11280) bitsLt_bf16_f32

/-- The host's padded gate columns. -/
def GW (v : FVec Ideal S1024x11280 .bf16) : FVec Ideal S1024x512 .bf16 :=
  shapeCast S1024x512 (pad S1024x4x128 ![0, 0, 0] ![0, 0, 124] ![0, 0, 0]
    (transpose S1024x4x4 [0, 2, 1] (shapeCast S1024x4x4 (extractStridedSlice S1024x16 ![0, 4096] v slices_S1024x11280_S1024x16_0_4096) shapeCasts_S1024x16_S1024x4x4) transposes_S1024x4x4_S1024x4x4_0_2_1)
    (sitofp .bf16 (constantI S_ 32 0#32)) pads_S1024x4x4_S1024x4x128_000_000_01240 h_S_) shapeCasts_S1024x4x128_S1024x512

/-- Eight groups of columns side by side. -/
def cat8 (a : FVec Ideal S1024x4096 .bf16) (b c d : FVec Ideal S1024x1024 .bf16) (e : FVec Ideal S1024x2048 .bf16) (f g : FVec Ideal S1024x1024 .bf16) (h : FVec Ideal S1024x512 .bf16) : FVec Ideal S1024x11776 .bf16 :=
  concatenate S1024x11776 1 [⟨S1024x4096, a⟩, ⟨S1024x1024, b⟩, ⟨S1024x1024, c⟩, ⟨S1024x1024, d⟩, ⟨S1024x2048, e⟩, ⟨S1024x1024, f⟩, ⟨S1024x1024, g⟩, ⟨S1024x512, h⟩]
    concatenates_S1024x4096_S1024x1024_S1024x1024_S1024x1024_S1024x2048_S1024x1024_S1024x1024_S1024x512_S1024x11776_d1

/-- The weights in the kernel's order of columns. -/
def WW (v : FVec Ideal S1024x11280 .bf16) : FVec Ideal S1024x11776 .bf16 :=
  cat8 (extractStridedSlice S1024x4096 ![0, 0] v slices_S1024x11280_S1024x4096_0_0) (extractStridedSlice S1024x1024 ![0, 4112] v slices_S1024x11280_S1024x1024_0_4112)
    (extractStridedSlice S1024x1024 ![0, 7184] v slices_S1024x11280_S1024x1024_0_7184) (extractStridedSlice S1024x1024 ![0, 8208] v slices_S1024x11280_S1024x1024_0_8208)
    (extractStridedSlice S1024x2048 ![0, 9232] v slices_S1024x11280_S1024x2048_0_9232) (extractStridedSlice S1024x1024 ![0, 5136] v slices_S1024x11280_S1024x1024_0_5136)
    (extractStridedSlice S1024x1024 ![0, 6160] v slices_S1024x11280_S1024x1024_0_6160) (GW v)

/-- The weights as the body reads them. -/
theorem V27 (c : Dev nD) : (show FVec Ideal S1024x11776 .bf16 from V m c main_v27) = WW (CW (m ((c.tc : Thread nD τ).loc main_arg2))) := by
  unfold V
  simp only [List.flatten_cons, List.flatten_nil, List.append_nil]
  after_reads_simp
  dsimp only [Matrix.cons_val]
  change cat8 _ _ _ _ _ _ _ _ = _
  after_reads_simp
  rfl

/-- The stream as the body reads it. -/
theorem V0 (c : Dev nD) : (show FVec Ideal S32768x1024 .f32 from V m c main_v0) = shapeCast _ (m ((c.tc : Thread nD τ).loc main_arg0)) (shapeCasts_S8x4096x1024_S32768x1024) := by
  unfold V
  simp only [List.flatten_cons, List.flatten_nil, List.append_nil]
  after_reads_simp
  rfl

/-- The gain as the body reads it. -/
theorem V33 (c : Dev nD) : (show FVec Ideal S1x1024 .f32 from V m c main_v33) = shapeCast _ (shapeCast _ (m ((c.tc : Thread nD τ).loc main_arg1)) shapeCasts_S1x1024_S1024) shapeCasts_S1024_S1x1024 := by
  unfold V
  simp only [List.flatten_cons, List.flatten_nil, List.append_nil]
  after_reads_simp
  rfl

/-- The row of bounds from the running sums. -/
def BB (l : FVec Ideal S2x2x1024 .f32) : FVec Ideal S1x2560 .f32 :=
  pad S1x2560 ![0, 0] ![0, 512] ![0, 0] (shapeCast S1x2048 (shapeCast S2x1024 (extractStridedSlice S2x1x1024 ![0, 0, 0] l slices_S2x2x1024_S2x1x1024_0_0_0) shapeCasts_S2x1x1024_S2x1024) shapeCasts_S2x1024_S1x2048)
    (sitofp .f32 (constantI S_ 32 0#32)) pads_S1x2048_S1x2560_000_05120 h_S_

/-- The bounds as the body reads them. -/
theorem V31 (c : Dev nD) : (show FVec Ideal S1x2560 .f32 from V m c main_v31) = BB (LB (m ((c.tc : Thread nD τ).loc main_arg3))) := by
  unfold V
  simp only [List.flatten_cons, List.flatten_nil, List.append_nil]
  after_reads_simp
  rfl

/-- The integer zero as a number. -/
theorem zero_at (φ : FTy) : FloatOps.sitofp (F := Ideal) φ (0#32) = (0 : EReal) := by
  show ((((0#32 : BitVec 32).toInt : ℤ) : ℝ) : EReal) = 0
  simp

/-- An entry of the row of bounds. -/
theorem BB_at (l) (n : Fin 2560) : BB l (ix2 0 n) = lbr (fun a j => l (ix3 a 0 j)) n := by
  pointwise [BB]
  unfold lbr
  by_cases h1 : n.val < 1024
  · rw [dif_pos (by omega), dif_pos h1]
    exact congrArg₂ (fun a j => l (ix3 a 0 j)) (Fin.ext (show n.val / 1024 = 0 by omega)) (Fin.ext (show n.val % 1024 = n.val by omega))
  by_cases h2 : n.val - 1024 < 1024
  · rw [dif_pos (by omega), dif_neg h1, dif_pos h2]
    exact congrArg₂ (fun a j => l (ix3 a 0 j)) (Fin.ext (show n.val / 1024 = 1 by omega)) (Fin.ext (show n.val % 1024 = n.val - 1024 by omega))
  · rw [dif_neg (by omega), dif_neg h1, dif_neg h2]
    exact zero_at _

/-- A gate column among the padded ones. -/
theorem GW_lt (v) (k : Fin 1024) (j : Fin 512) (h : j.val % 128 < 4) : GW v (ix2 k j) = v (ix2 k ⟨4096 + (j.val % 128 * 4 + j.val / 128), by omega⟩) := by
  have q : j.val / 128 < 4 ∧ j.val % 128 < 4 := ⟨by omega, h⟩
  pointwise [GW]
  exact dif_pos q

/-- A column of the padding. -/
theorem GW_ge (v) (k : Fin 1024) (j : Fin 512) (h : ¬ j.val % 128 < 4) : GW v (ix2 k j) = (0 : EReal) := by
  have q : ¬ (j.val / 128 < 4 ∧ j.val % 128 < 4) := fun q => h q.2
  pointwise [GW]
  exact (dif_neg q).trans (zero_at _)

/-- The same entry of a row, the column written in two ways. -/
theorem col_eq (v : FVec Ideal S1024x11280 .bf16) (k : Fin 1024) (a b : ℕ) (ha) (hb) (h : a = b) : v (ix2 k ⟨a, ha⟩) = v (ix2 k ⟨b, hb⟩) := by
  subst h
  rfl

/-- A column of the weights behind the first result. -/
theorem WW_at16 (v) (k : Fin 1024) (n : Fin 9216) : WW v (ix2 k ⟨n.val, by omega⟩) = col16 (fun j => v (ix2 k j)) n := by
  unfold WW
  generalize GW v = w
  pointwise [cat8]
  unfold col16
  by_cases h1 : n.val < 4096
  · rw [dif_pos h1, dif_pos h1]
  by_cases h2 : n.val - 4096 < 1024
  · rw [dif_neg h1, dif_neg h1, dif_pos h2, dif_pos h2]
  rw [dif_neg h1, dif_neg h1, dif_neg h2, dif_neg h2]
  by_cases h3 : n.val - 4096 - 1024 < 1024
  · rw [dif_pos h3, dif_pos (by omega)]
  rw [dif_neg h3]
  by_cases h4 : n.val - 4096 - 1024 - 1024 < 1024
  · rw [dif_pos h4, dif_pos (by omega)]
    exact col_eq v k _ _ _ _ (by omega)
  · rw [dif_neg h4, dif_pos (by omega), dif_neg (by omega)]
    exact col_eq v k _ _ _ _ (by omega)

/-- A column of the weights behind the second result. -/
theorem WW_at32 (v) (k : Fin 1024) (n : Fin 2560) : WW v (ix2 k ⟨9216 + n.val, by omega⟩) = col32 (fun j => v (ix2 k j)) n := by
  unfold WW
  have hl := GW_lt v k
  have hg := GW_ge v k
  generalize GW v = w at hl hg ⊢
  pointwise [cat8]
  unfold col32
  rw [dif_neg (by omega), dif_neg (by omega), dif_neg (by omega), dif_neg (by omega), dif_neg (by omega)]
  by_cases h1 : n.val < 1024
  · rw [dif_pos (by omega), dif_pos h1]
    exact col_eq v k _ _ _ _ (by omega)
  by_cases h2 : n.val - 1024 < 1024
  · rw [dif_neg (by omega), dif_pos (by omega), dif_neg h1, dif_pos h2]
    exact col_eq v k _ _ _ _ (by omega)
  rw [dif_neg (by omega), dif_neg (by omega), dif_neg h1, dif_neg h2]
  refine (congrArg (fun j => w (ix2 k j)) (Fin.ext (b := ⟨n.val - 1024 - 1024, by omega⟩) (by show 9216 + n.val - 4096 - 1024 - 1024 - 1024 - 2048 - 1024 - 1024 = n.val - 1024 - 1024; omega))).trans ?_
  split
  · rename_i h3
    exact hl ⟨n.val - 1024 - 1024, by omega⟩ h3
  · rename_i h3
    exact hg ⟨n.val - 1024 - 1024, by omega⟩ h3

/-- A row of the stream with its two row axes taken together. -/
theorem rows_at (x : FVec Ideal S8x4096x1024 .f32) (i : ℕ) (hi : i < 32768) (n : Fin 1024) (a : Fin 8) (b : Fin 4096) (ha : a.val = i / 4096) (hb : b.val = i % 4096) :
    shapeCast S32768x1024 x shapeCasts_S8x4096x1024_S32768x1024 (ix2 ⟨i, hi⟩ n) = x (ix3 a b n) := by
  obtain ⟨a, ha'⟩ := a; obtain ⟨b, hb'⟩ := b
  dsimp only at ha hb
  subst ha hb
  pointwise

/-- The gain, reshaped twice. -/
theorem gain_at (x : FVec Ideal S1x1024 .f32) (k : Fin 1024) :
    shapeCast S1x1024 (shapeCast S1024 x shapeCasts_S1x1024_S1024) shapeCasts_S1024_S1x1024 (ix2 0 k) = x (ix2 0 k) := by
  pointwise

/-- An entry of the stream's block at a grid point. -/
theorem rd0 (c : Dev nD) (t : Fin cfg0.N) (r : Fin 512) (n : Fin 1024) (a : Fin 8) (b : Fin 4096)
    (ha : a.val = (t.val * 512 + r.val) / 4096) (hb : b.val = (t.val * 512 + r.val) % 4096) :
    (show FVec Ideal S512x1024 .f32 from iblk m c 0 t) (ix2 r n)
      = (show FVec Ideal Cert.Reference3Ideal.S8x4096x1024 .f32 from m ((c.tc : Thread nD τ).loc main_arg0)) (ix3 a b n) := by
  have ht : t.val < 64 := t.isLt
  have hr : t.val * 512 + r.val < 32768 := by omega
  have e : (show FVec Ideal S512x1024 .f32 from iblk m c 0 t) (ix2 r n) = (show FVec Ideal S32768x1024 .f32 from V m c main_v0) (ix2 ⟨t.val * 512 + r.val, hr⟩ n) := by
    blk_ext [iblk, idx t]
  exact (e.trans (congrFun (V0 m c) _)).trans (rows_at _ _ hr n a b ha hb)

/-- The gain as the body reads it. -/
theorem rd1 (c : Dev nD) (t : Fin cfg0.N) (k : Fin 1024) : (show FVec Ideal S1x1024 .f32 from iblk m c 1 t) (ix2 0 k)
    = (show FVec Ideal S1x1024 .f32 from m ((c.tc : Thread nD τ).loc main_arg1)) (ix2 0 k) := by
  have e : (show FVec Ideal S1x1024 .f32 from iblk m c 1 t) (ix2 0 k) = (show FVec Ideal S1x1024 .f32 from V m c main_v33) (ix2 0 k) := by
    blk_ext [iblk, idx t]
  exact (e.trans (congrFun (V33 m c) _)).trans (gain_at _ k)

/-- The weights' block is the whole array. -/
theorem rdw (c : Dev nD) (t : Fin cfg0.N) (k : Fin 1024) (n : Fin 11776) : (show FVec Ideal S1024x11776 .bf16 from iblk m c 2 t) (ix2 k n)
    = WW (CW (m ((c.tc : Thread nD τ).loc main_arg2))) (ix2 k n) := by
  have e : (show FVec Ideal S1024x11776 .bf16 from iblk m c 2 t) (ix2 k n) = (show FVec Ideal S1024x11776 .bf16 from V m c main_v27) (ix2 k n) := by
    blk_ext [iblk, idx t]
  exact e.trans (congrFun (V27 m c) _)

/-- An entry of the weights. -/
theorem CW_at (w) (k : Fin 1024) (j : Fin 11280) : CW w (ix2 k j) = w (ix3 0 k j) := by
  pointwise [CW]

/-- The weights behind a column of the first result. -/
theorem rd2 (c : Dev nD) (t : Fin cfg0.N) (k : Fin 1024) (n : Fin 9216) : (show FVec Ideal S1024x11776 .bf16 from iblk m c 2 t) (ix2 k ⟨n.val, by omega⟩)
    = col16 (fun j => (show FVec Ideal S1x1024x11280 .f32 from m ((c.tc : Thread nD τ).loc main_arg2)) (ix3 0 k j)) n := by
  rw [rdw, WW_at16]
  simp only [CW_at]

/-- The weights behind a column of the second result. -/
theorem rd2' (c : Dev nD) (t : Fin cfg0.N) (k : Fin 1024) (n : Fin 2560) : (show FVec Ideal S1024x11776 .bf16 from iblk m c 2 t) (ix2 k ⟨9216 + n.val, by omega⟩)
    = col32 (fun j => (show FVec Ideal S1x1024x11280 .f32 from m ((c.tc : Thread nD τ).loc main_arg2)) (ix3 0 k j)) n := by
  rw [rdw, WW_at32]
  simp only [CW_at]

/-- The bound of a gate column. -/
theorem rd3 (c : Dev nD) (t : Fin cfg0.N) (n : Fin 2560) : (show FVec Ideal S1x2560 .f32 from iblk m c 3 t) (ix2 0 n)
    = lbr (fun a j => LB (m ((c.tc : Thread nD τ).loc main_arg3)) (ix3 a 0 j)) n := by
  have e : (show FVec Ideal S1x2560 .f32 from iblk m c 3 t) (ix2 0 n) = (show FVec Ideal S1x2560 .f32 from V m c main_v31) (ix2 0 n) := by
    blk_ext [iblk, idx t]
  exact (e.trans (congrFun (V31 m c) _)).trans (BB_at _ n)

/-- An entry of the reference's first result, its row in two parts. -/
theorem ref16_at (x0 x1 x2) (i : Cert.Reference3Ideal.S32768x9216.Idx) (a : Fin 8) (b : Fin 4096) (n : Fin 9216) (ha : a.val = (i 0).val / 4096) (hb : b.val = (i 0).val % 4096) (hn : n.val = (i 1).val) :
    REF16 x0 x1 x2 i = act16 n (pre (fun k => x0 (ix3 a b k)) (fun k => x1 (ix2 0 k)) (fun k => col16 (fun j => x2 (ix3 0 k j)) n)) := by
  obtain ⟨a, ha'⟩ := a; obtain ⟨b, hb'⟩ := b
  dsimp only at ha hb
  subst ha hb
  obtain rfl : n = i 1 := Fin.ext hn
  exact REF16_at x0 x1 x2 i

/-- An entry of the reference's second result, its row in two parts. -/
theorem ref32_at (x0 x1 x2 x3) (i : Cert.Reference3Ideal.S32768x2560.Idx) (a : Fin 8) (b : Fin 4096) (n : Fin 2560) (ha : a.val = (i 0).val / 4096) (hb : b.val = (i 0).val % 4096) (hn : n.val = (i 1).val) :
    REF32 x0 x1 x2 x3 i = act32 n (lbr (fun a j => LB x3 (ix3 a 0 j)) n)
      (pre (fun k => x0 (ix3 a b k)) (fun k => x1 (ix2 0 k)) (fun k => col32 (fun j => x2 (ix3 0 k j)) n)) := by
  obtain ⟨a, ha'⟩ := a; obtain ⟨b, hb'⟩ := b
  dsimp only at ha hb
  subst ha hb
  obtain rfl : n = i 1 := Fin.ext hn
  exact REF32_at x0 x1 x2 x3 i

/-- `pre` of equal rows, gains and columns. -/
theorem pre_eq {x x' g g' w w' : Fin 1024 → EReal} (hx : ∀ k, x k = x' k) (hg : ∀ k, g k = g' k) (hw : ∀ k, w k = w' k) : pre x g w = pre x' g' w' := by
  rw [funext hx, funext hg, funext hw]

/-- The call's first result array is the reference's. -/
theorem final16 (c : Dev nD) :
    (dats m 0 c).arrAt 4 (cfgs 0).N = REF16 (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  have ht : t.val < 64 := t.isLt
  have hy : (y 0).val < 512 := (y 0).isLt
  have hb : (t.val * 512 + (y 0).val) / 4096 < 8 := by omega
  have hs : (t.val * 512 + (y 0).val) % 4096 < 4096 := by omega
  blk_simp
  rw [after0_4]
  refine (out16_at _ _ _ _ y).trans (Eq.trans ?_ (ref16_at _ _ _ _ ⟨_, hb⟩ ⟨_, hs⟩ (y 1) ?_ ?_ ?_).symm)
  · exact congrArg (act16 (y 1)) (pre_eq (fun k => rd0 m c t _ k _ _ rfl rfl) (fun k => rd1 m c t k) (fun k => rd2 m c t k (y 1)))
  all_goals (blk_simp [idx t] <;> try omega)

/-- The call's second result array is the reference's. -/
theorem final32 (c : Dev nD) :
    (dats m 0 c).arrAt 5 (cfgs 0).N = REF32 (m ((c.tc : Thread nD τ).loc main_arg0)) (m ((c.tc : Thread nD τ).loc main_arg1)) (m ((c.tc : Thread nD τ).loc main_arg2))
      (m ((c.tc : Thread nD τ).loc main_arg3)) := by
  refine (dats m 0 c).arrAt_eq_of_covers 5 _ (by decide +kernel) fun t _ y => ?_
  have ht : t.val < 64 := t.isLt
  have hy : (y 0).val < 512 := (y 0).isLt
  have hb : (t.val * 512 + (y 0).val) / 4096 < 8 := by omega
  have hs : (t.val * 512 + (y 0).val) % 4096 < 4096 := by omega
  blk_simp
  rw [after0_5]
  refine (out32_at _ _ _ _ y).trans (Eq.trans ?_ (ref32_at _ _ _ _ _ ⟨_, hb⟩ ⟨_, hs⟩ (y 1) ?_ ?_ ?_).symm)
  · exact congrArg₂ (act32 (y 1)) (rd3 m c t (y 1)) (pre_eq (fun k => rd0 m c t _ k _ _ rfl rfl) (fun k => rd1 m c t k) (fun k => rd2' m c t k (y 1)))
  all_goals (blk_simp [idx t] <;> try omega)

end Cert.InProjProof
-- ==== Proof.Merge.lean ====
/-
  The call that joins the two mixers: each one's output is projected, multiplied by the logistic function of its gate, and the sum of the
  two is projected and added to the stream. The kernel works 1024 rows at a time and spells the logistic function through the hyperbolic
  tangent; `final` says that its result array is the reference's, entry by entry, for any inputs.
-/
module

public import proofs.«01_k».proof.Proof.Gen.Kernel4Ideal.Value
public import proofs.«01_k».proof.Proof.Gen.Reference4Ideal.Run
public import Idealize.ShloMosaic.Lib.Pipeline.ValueKit
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.MergeProof
section
open Cert.Reference4Ideal Cert.Reference4Ideal.Gen
/-- The reference's result as a function of its arguments. -/
abbrev REF (x0 : FVec Ideal S8x4096x1024 .f32) (x1 x2 : FVec Ideal S32768x1024 .bf16) (x3 : FVec Ideal S32768x9216 .bf16) (x4 x5 x6 : FVec Ideal S1x1024x1024 .f32) : FVec Ideal S32768x1024 .f32 :=
  addf (shapeCast _ x0 shapeCasts_S8x4096x1024_S32768x1024) (Host.dotGeneral dot_S32768x1024_S1024x1024_S32768x1024_1_0_0_1_n_n none (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 7168] x3 slices_S32768x9216_S32768x1024_0_7168) bitsLt_bf16_f32))))) (Host.dotGeneral dot_S32768x1024_S1024x1024_S32768x1024_1_0_0_1_n_n none (extf .f32 x1 bitsLt_bf16_f32) (shapeCast _ x4 shapeCasts_S1x1024x1024_S1024x1024))) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 (extractStridedSlice S32768x1024 ![0, 8192] x3 slices_S32768x9216_S32768x1024_0_8192) bitsLt_bf16_f32))))) (Host.dotGeneral dot_S32768x1024_S1024x1024_S32768x1024_1_0_0_1_n_n none (extf .f32 x2 bitsLt_bf16_f32) (shapeCast _ x5 shapeCasts_S1x1024x1024_S1024x1024)))) (shapeCast _ x6 shapeCasts_S1x1024x1024_S1024x1024))
end

open Cert.Kernel4Ideal Cert.Kernel4Ideal.Gen

variable (m : (ℓ : Loc nD τ sig) → Buf (Elt Ideal) ℓ)

/-- Which block of its array each window holds at a grid point. -/
theorem idx : ∀ t : Fin cfg0.N, win0_0.index t = ![t.val, 0] ∧ win0_1.index t = ![t.val, 0] ∧ win0_2.index t = ![t.val, 0]
    ∧ win0_3.index t = ![t.val, 7] ∧ win0_4.index t = ![t.val, 8] ∧ win0_5.index t = ![0, 0] ∧ win0_6.index t = ![0, 0]
    ∧ win0_7.index t = ![0, 0] ∧ win0_8.index t = ![t.val, 0] :=
  (by decide +kernel : ∀ t : Fin grid0.N, _)

/-- One entry of the call's result from the rows and columns it depends on. -/
def spec (x : EReal) (a b g h : Fin 1024 → EReal) (u v : Fin 1024 → Fin 1024 → EReal) (w : Fin 1024 → EReal) : EReal :=
  x + ∑ k, (Ideal.div 1 (1 + Ideal.exp (-g k)) * (∑ j, a j * u j k) + Ideal.div 1 (1 + Ideal.exp (-h k)) * (∑ j, b j * v j k)) * w k

/-- An entry of what the kernel's body stores. -/
theorem pay_at (v0 : FVec Ideal S1024x1024 .f32) (v1 v5 v2 v6 v3 v4 v7 : FVec Ideal S1024x1024 .bf16) (y : S1024x1024.Idx) :
    k0_pay1 (F := Ideal) (k0_pay2 v0) (k0_pay3 v1 v5 v2 v6 v3 v4) (k0_pay4 v7) (constant S1024x1024 FTy.f32 0#32) y
      = spec (v0 y) (fun j => v1 (ix2 (y 0) j)) (fun j => v2 (ix2 (y 0) j)) (fun j => v3 (ix2 (y 0) j)) (fun j => v4 (ix2 (y 0) j))
        (fun j k => v5 (ix2 j k)) (fun j k => v6 (ix2 j k)) (fun k => v7 (ix2 k (y 1))) := by
  pointwise [k0_pay1, k0_pay2, k0_pay3, k0_pay4]
  simp only [Cert.Common.sigm]
  rfl

/-- An entry of the reference's result. -/
theorem ref_at (x0 : FVec Ideal Cert.Reference4Ideal.S8x4096x1024 .f32) (x1 x2 : FVec Ideal S32768x1024 .bf16) (x3 : FVec Ideal S32768x9216 .bf16) (x4 x5 x6 : FVec Ideal S1x1024x1024 .f32) (i : S32768x1024.Idx) :
    REF x0 x1 x2 x3 x4 x5 x6 i = spec (x0 (ix3 ⟨(i 0).val / 4096, by idx_bounds; omega⟩ ⟨(i 0).val % 4096, by omega⟩ (i 1)))
     (fun j => x1 (ix2 (i 0) j)) (fun j => x2 (ix2 (i 0) j)) (fun j => x3 (ix2 (i 0) ⟨7168 + j.val, by omega⟩)) (fun j => x3 (ix2 (i 0) ⟨8192 + j.val, by omega⟩))
        (fun j k => x4 (ix3 0 j k)) (fun j k => x5 (ix3 0 j k)) (fun k => x6 (ix3 0 k (i 1))) := by
  pointwise [REF]
  rfl

/-- The kernel is handed the stream with its batches and positions joined to one axis of rows. -/
theorem V0 (c : Dev nD) : (show FVec Ideal S32768x1024 .f32 from V m c main_v0) = shapeCast _ (m ((c.tc : Thread nD τ).loc main_arg0)) (shapeCasts_S8x4096x1024_S32768x1024) := by
  entry_read
  rfl

/-- Row `i` of the joined stream is position `i % 4096` of batch `i / 4096`. -/
theorem cast_at (X : FVec Ideal S8x4096x1024 .f32) (i : S32768x1024.Idx) :
   shapeCast S32768x1024 X shapeCasts_S8x4096x1024_S32768x1024 i = X (ix3 ⟨(i 0).val / 4096, by idx_bounds; omega⟩ ⟨(i 0).val % 4096, by omega⟩ (i 1)) := by
  pointwise

/-- An entry of the stream's block at a grid point. -/
theorem rd0 (c : Dev nD) (t : Fin cfg0.N) (y : S1024x1024.Idx) (i : S32768x1024.Idx) (h0 : (i 0).val = t.val * 1024 + (y 0).val) (h1 : (i 1).val = (y 1).val) :
   (show FVec Ideal S1024x1024 .f32 from iblk m c 0 t) y = (show FVec Ideal Cert.Reference4Ideal.S8x4096x1024 .f32 from m ((c.tc : Thread nD τ).loc main_arg0)) (ix3 ⟨(i 0).val / 4096, by idx_bounds; omega⟩ ⟨(i 0).val % 4096, by omega⟩ (i 1)) := by
  have e : (show FVec Ideal S1024x1024 .f32 from iblk m c 0 t) y = (show FVec Ideal S32768x1024 .f32 from V m c main_v0) i := by
    blk_ext [iblk, idx t]
  rw [e, V0]
  exact cast_at _ i

/-- The call's result array is the reference. -/
theorem final (c : Dev nD) : (dats m 0 c).arrAt 8 (cfgs 0).N = REF (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 8 _ (by decide +kernel) fun t _ y => ?_
  blk_simp
  rw [after0_8]
  frame_out
  refine (pay_at _ _ _ _ _ _ _ _ y).trans (Eq.trans ?_ (ref_at _ _ _ _ _ _ _ _).symm)
  congr 1
  · refine rd0 m c t y _ ?_ ?_
    all_goals (blk_simp [idx t] <;> try omega)
  all_goals first | (refine funext fun k => ?_; blk_ext [iblk, V, idx t]; done) | skip
  all_goals first | (refine funext fun k => funext fun l => ?_; blk_point [iblk, V, idx t]; done) | skip
  all_goals first | (refine funext fun k => ?_; blk_point [iblk, V, idx t]; done) | skip

end Cert.MergeProof
-- ==== Proof.Kv.lean ====
/-
  The keys and values of the memory: the memory's rows normalised at the first of the four column blocks and kept for the
  others, each block then multiplied by its columns of the weights. The body's values, the host's reads, and the result
  against the reference.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ValueKit.Held
public import Idealize.ShloMosaic.Lib.Pipeline.ReadBack
public import Idealize.ShloMosaic.Lib.StableHlo.RunRead
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.KvProof
section
open Cert.Reference5Ideal Cert.Reference5Ideal.Gen

/-- The normalised memory. -/
def U (x0 : FVec Ideal S8x256x1024 .f32) (x1 : FVec Ideal S1x1024 .f32) : FVec Ideal S8x256x1024 .f32 :=
  mulf (mulf x0 (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x0 x0) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ x1 shapeCasts_S1x1024_S1024)))

/-- The projection of the normalised memory. -/
def P (u : FVec Ideal S8x256x1024 .f32) (x2 : FVec Ideal S1x1024x2048 .f32) : FVec Ideal S8x256x2048 .f32 :=
  Host.dotGeneral dot_S8x256x1024_S1024x2048_S8x256x2048_2_0_01_1_n_n none u (shapeCast _ x2 shapeCasts_S1x1024x2048_S1024x2048)

/-- The whole reference. -/
def REF (x0 : FVec Ideal S8x256x1024 .f32) (x1 : FVec Ideal S1x1024 .f32) (x2 : FVec Ideal S1x1024x2048 .f32) : FVec Ideal S2048x2048 .bf16 :=
  truncf .bf16 (shapeCast _ (P (U x0 x1) x2) shapeCasts_S8x256x2048_S2048x2048) bitsLt_bf16_f32

/-- An entry of the normalised memory. -/
theorem U_at (x0 x1) (b : Fin 8) (s : Fin 256) (n : Fin 1024) :
    U x0 x1 (ix3 b s n) = Cert.Common.rms (fun k => x0 (ix3 b s k)) (fun k => x1 (ix2 0 k)) n := by
  pointwise [U]
  rfl

/-- An entry of the projection. -/
theorem P_at (u x2) (b : Fin 8) (s : Fin 256) (j : Fin 2048) :
    P u x2 (ix3 b s j) = ∑ k : Fin 1024, u (ix3 b s k) * x2 (ix3 0 k j) := by
  pointwise [P]

/-- An entry of the reference's result, from the projection. -/
theorem REF_P (x0 x1 x2) (i : S2048x2048.Idx) :
    REF x0 x1 x2 i = P (U x0 x1) x2 (ix3 ⟨(i 0).val / 256, by idx_bounds; omega⟩ ⟨(i 0).val % 256, by omega⟩ (i 1)) := by
  pointwise [REF]

/-- An entry of the reference's result, from the arguments, its row in two parts. -/
theorem REF_at (x0 x1 x2) (i : S2048x2048.Idx) (a : Fin 8) (b : Fin 256) (n : Fin 2048) (ha : a.val = (i 0).val / 256) (hb : b.val = (i 0).val % 256) (hn : n.val = (i 1).val) :
    REF x0 x1 x2 i = ∑ k : Fin 1024, Cert.Common.rms (fun k => x0 (ix3 a b k)) (fun k => x1 (ix2 0 k)) k * x2 (ix3 0 k n) := by
  obtain ⟨a, ha'⟩ := a; obtain ⟨b, hb'⟩ := b
  dsimp only at ha hb
  subst ha hb
  obtain rfl : n = i 1 := Fin.ext hn
  refine (REF_P x0 x1 x2 i).trans ((P_at (U x0 x1) x2 _ _ (i 1)).trans ?_)
  exact Finset.sum_congr rfl fun k _ => congrArg (· * x2 (ix3 0 k (i 1))) (U_at x0 x1 _ _ k)

end

section
open Cert.Kernel5Ideal Cert.Kernel5Ideal.Gen

variable (m : (ℓ : Loc nD τ sig) → Buf (Elt Ideal) ℓ)

/-- An entry of the normalised rows. -/
theorem pay1_at (x0 x1) (r : Fin 2048) (k : Fin 1024) :
    k0_pay1 (F := Ideal) x0 x1 (ix2 r k) = Cert.Common.rms (fun k => x0 (ix2 r k)) (fun k => x1 (ix2 0 k)) k := by
  pointwise [k0_pay1]
  rfl

/-- An entry of one block of the product. -/
theorem pay2_at (v3 v4) (y : S2048x512.Idx) :
    k0_pay2 (F := Ideal) v3 v4 y = ∑ k : Fin 1024, v3 (ix2 (y 0) k) * v4 (ix2 k (y 1)) := by
  pointwise [k0_pay2]

/-- Which block of its array each window holds at a grid point. -/
theorem idx : ∀ t : Fin cfg0.N, win0_0.index t = ![0, 0] ∧ win0_1.index t = ![0, 0] ∧ win0_2.index t = ![0, t.val] ∧ win0_3.index t = ![0, t.val] :=
  (by decide +kernel : ∀ t : Fin grid0.N, _)

/-- The memory as the body reads it. -/
theorem V0 (c : Dev nD) : (show FVec Ideal S2048x1024 .f32 from V m c main_v0) = shapeCast _ (m ((c.tc : Thread nD τ).loc main_arg0)) (shapeCasts_S8x256x1024_S2048x1024) := by
  unfold V
  simp only [List.flatten_cons, List.flatten_nil, List.append_nil]
  after_reads_simp
  rfl

/-- The gain as the body reads it. -/
theorem V4 (c : Dev nD) : (show FVec Ideal S1x1024 .f32 from V m c main_v4) = shapeCast _ (shapeCast _ (m ((c.tc : Thread nD τ).loc main_arg1)) shapeCasts_S1x1024_S1024) shapeCasts_S1024_S1x1024 := by
  unfold V
  simp only [List.flatten_cons, List.flatten_nil, List.append_nil]
  after_reads_simp
  rfl

/-- The host's weights, the layer axis dropped. -/
def CW (w : FVec Ideal S1x1024x2048 .f32) : FVec Ideal S1024x2048 .bf16 :=
  truncf .bf16 (shapeCast _ w shapeCasts_S1x1024x2048_S1024x2048) bitsLt_bf16_f32

/-- The weights as the body reads them. -/
theorem V3 (c : Dev nD) : (show FVec Ideal S1024x2048 .bf16 from V m c main_v3) = CW (m ((c.tc : Thread nD τ).loc main_arg2)) := by
  unfold V
  simp only [List.flatten_cons, List.flatten_nil, List.append_nil]
  after_reads_simp
  rfl

/-- An entry of the weights. -/
theorem CW_at (w) (k : Fin 1024) (j : Fin 2048) : CW w (ix2 k j) = w (ix3 0 k j) := by
  pointwise [CW]

/-- A row of the memory with its two row axes taken together. -/
theorem rows_at (x : FVec Ideal S8x256x1024 .f32) (r : Fin 2048) (n : Fin 1024) (a : Fin 8) (b : Fin 256) (ha : a.val = r.val / 256) (hb : b.val = r.val % 256) :
    shapeCast S2048x1024 x shapeCasts_S8x256x1024_S2048x1024 (ix2 r n) = x (ix3 a b n) := by
  obtain ⟨a, ha'⟩ := a; obtain ⟨b, hb'⟩ := b
  dsimp only at ha hb
  subst ha hb
  pointwise

/-- The gain, reshaped twice. -/
theorem gain_at (x : FVec Ideal S1x1024 .f32) (k : Fin 1024) :
    shapeCast S1x1024 (shapeCast S1024 x shapeCasts_S1x1024_S1024) shapeCasts_S1024_S1x1024 (ix2 0 k) = x (ix2 0 k) := by
  pointwise

/-- An entry of the memory's block, the same at every grid point. -/
theorem rd0 (c : Dev nD) (t : Fin cfg0.N) (r : Fin 2048) (n : Fin 1024) (a : Fin 8) (b : Fin 256) (ha : a.val = r.val / 256) (hb : b.val = r.val % 256) :
    (show FVec Ideal S2048x1024 .f32 from iblk m c 0 t) (ix2 r n)
      = (show FVec Ideal S8x256x1024 .f32 from m ((c.tc : Thread nD τ).loc main_arg0)) (ix3 a b n) := by
  have e : (show FVec Ideal S2048x1024 .f32 from iblk m c 0 t) (ix2 r n) = (show FVec Ideal S2048x1024 .f32 from V m c main_v0) (ix2 r n) := by
    blk_ext [iblk, idx t]
  exact (e.trans (congrFun (V0 m c) _)).trans (rows_at _ r n a b ha hb)

/-- The gain as the body reads it. -/
theorem rd1 (c : Dev nD) (t : Fin cfg0.N) (k : Fin 1024) : (show FVec Ideal S1x1024 .f32 from iblk m c 1 t) (ix2 0 k)
    = (show FVec Ideal S1x1024 .f32 from m ((c.tc : Thread nD τ).loc main_arg1)) (ix2 0 k) := by
  have e : (show FVec Ideal S1x1024 .f32 from iblk m c 1 t) (ix2 0 k) = (show FVec Ideal S1x1024 .f32 from V m c main_v4) (ix2 0 k) := by
    blk_ext [iblk, idx t]
  exact (e.trans (congrFun (V4 m c) _)).trans (gain_at _ k)

/-- An entry of the weights' block: column `t * 512 + j`. -/
theorem rd2 (c : Dev nD) (t : Fin cfg0.N) (k : Fin 1024) (j : Fin 512) (n : Fin 2048) (hn : n.val = t.val * 512 + j.val) :
    (show FVec Ideal S1024x512 .bf16 from iblk m c 2 t) (ix2 k j)
      = (show FVec Ideal S1x1024x2048 .f32 from m ((c.tc : Thread nD τ).loc main_arg2)) (ix3 0 k n) := by
  obtain ⟨n, hn'⟩ := n
  dsimp only at hn
  subst hn
  have e : (show FVec Ideal S1024x512 .bf16 from iblk m c 2 t) (ix2 k j) = (show FVec Ideal S1024x2048 .bf16 from V m c main_v3) (ix2 k ⟨t.val * 512 + j.val, hn'⟩) := by
    blk_ext [iblk, idx t]
  exact (e.trans (congrFun (V3 m c) _)).trans (CW_at _ k _)

/-- The kept rows at every grid point are what the first point of the four wrote. -/
theorem held (c : Dev nD) (t : Fin cfg0.N) (i : S2048x1024.Idx) :
    (show FVec Ideal S2048x1024 .bf16 from (outsAt0 m c t.val t.isLt).2) i
      = k0_pay1 (F := Ideal) (iblk m c 0 ⟨4 * (t.val / 4), Pipeline.run_start_lt t⟩) (iblk m c 1 ⟨4 * (t.val / 4), Pipeline.run_start_lt t⟩) i :=
  Pipeline.eq_of_write_hold_apply (fun n h => (show FVec Ideal S2048x1024 .bf16 from (outsAt0 m c n h).2)) 4
    (fun t => k0_pay1 (F := Ideal) (iblk m c 0 t) (iblk m c 1 t))
    (fun t h i => by
      rw [outsAt0_A m c t h]
      frame_out)
    (fun t h i => by
      rw [outsAt0_B m c t h]
      rfl) t i

/-- The kept rows are the normalised memory. -/
theorem held_at (c : Dev nD) (t : Fin cfg0.N) (r : Fin 2048) (k : Fin 1024) (a : Fin 8) (b : Fin 256) (ha : a.val = r.val / 256) (hb : b.val = r.val % 256) :
    (show FVec Ideal S2048x1024 .bf16 from (outsAt0 m c t.val t.isLt).2) (ix2 r k)
      = Cert.Common.rms (fun k => (show FVec Ideal S8x256x1024 .f32 from m ((c.tc : Thread nD τ).loc main_arg0)) (ix3 a b k))
          (fun k => (show FVec Ideal S1x1024 .f32 from m ((c.tc : Thread nD τ).loc main_arg1)) (ix2 0 k)) k := by
  refine (held m c t _).trans ((pay1_at _ _ r k).trans ?_)
  exact congrArg₂ (fun x g => Cert.Common.rms x g k) (funext fun n => rd0 m c _ r n a b ha hb) (funext fun n => rd1 m c _ n)

/-- At every grid point the block written out is the product of the kept rows with the block's weights. -/
theorem out_eq (c : Dev nD) (t : Fin cfg0.N) (y : S2048x512.Idx) :
    (show FVec Ideal S2048x512 .bf16 from (outsAt0 m c t.val t.isLt).1) y
      = k0_pay2 (F := Ideal) (outsAt0 m c t.val t.isLt).2 (iblk m c 2 t) y := by
  by_cases h : t.val % 4 = 0
  · rw [outsAt0_A m c t h]
    frame_out
  · rw [outsAt0_B m c t h]
    frame_out
    simp only [read_unread_whole]
    rfl

/-- The call's result array is the reference's. -/
theorem final (c : Dev nD) :
    (dats m 0 c).arrAt 3 (cfgs 0).N = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht : t.val < 4 := t.isLt
  have hy : (y 0).val < 2048 := (y 0).isLt
  have hz : (y 1).val < 512 := (y 1).isLt
  have ha : (y 0).val / 256 < 8 := by omega
  have hb : (y 0).val % 256 < 256 := by omega
  have hn : t.val * 512 + (y 1).val < 2048 := by omega
  blk_simp
  rw [after0_3]
  refine (out_eq m c t y).trans ((pay2_at _ _ y).trans (Eq.trans ?_ (REF_at _ _ _ _ ⟨_, ha⟩ ⟨_, hb⟩ ⟨_, hn⟩ ?_ ?_ ?_).symm))
  · exact Finset.sum_congr rfl fun k _ => congrArg₂ (· * ·) (held_at m c t _ k _ _ rfl rfl) (rd2 m c t k _ _ rfl)
  all_goals (blk_simp [idx t] <;> try omega)

end
end Cert.KvProof
end
-- ==== Proof.Finite.lean ====
/-
  The precondition of the attention call, read back: it says that every entry of four of its arguments is a real number.
-/
module

public import proofs.«01_k».proof.Pre_attention_inputs_finite
public import Idealize.ShloMosaic.Lib.ReduceAll
public import Idealize.ShloMosaic.Lib.Pipeline.ValueKit
public import proofs.«01_k».proof.Proof.Common

@[expose] public section

noncomputable section

open Idealize.ShloMosaic
open Cert.Pre_attention_inputs_finite

namespace Cert.Finite

/-- An array of no axes has one entry. -/
theorem one_index : Subsingleton S_.Idx := ⟨fun _ _ => funext fun a => a.elim0⟩

variable [Cert.Pre_attention_inputs_finite.Facts]

/-- Under the precondition the stream, the gain, the query weights and the keys and values hold real numbers. -/
theorem reals (x0 : FVec Ideal S8x4096x1024 .f32) (x1 : FVec Ideal S1x1024 .f32) (x2 : FVec Ideal S1x1024x1024 .f32)
    (x3 : FVec Ideal S2048x2048 .bf16) (x4 : FVec Ideal S1x1024x1024 .f32) (h : fn (F := Ideal) x0 x1 x2 x3 x4 = fun _ => 1#1) :
    (∀ i, Cert.Common.IsR (x0 i)) ∧ (∀ i, Cert.Common.IsR (x1 i)) ∧ (∀ i, Cert.Common.IsR (x2 i)) ∧ ∀ i, Cert.Common.IsR (x3 i) := by
  haveI := one_index
  have e := congrFun h (fun a => a.elim0)
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨fun i => Cert.Common.isR_of_cmp (Host.reduce_andi_all _ _ _ _ _ e0 i), fun i => Cert.Common.isR_of_cmp (Host.reduce_andi_all _ _ _ _ _ e1 i),
    fun i => Cert.Common.isR_of_cmp (Host.reduce_andi_all _ _ _ _ _ e2 i), fun i => Cert.Common.isR_of_cmp (Host.reduce_andi_all _ _ _ _ _ e3 i)⟩

end Cert.Finite
-- ==== Proof.lean ====
/-
  The claims put together: each call's frames are the generated ones, and each value claim takes the kernel's final array to the reference's
  term by the `final` of that call's module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Xattn
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Ffn
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.InProj
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Merge
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Kv
public import proofs.«01_k».proof.Proof.Gen.Pre_attention_inputs_finite
public import proofs.«01_k».proof.Proof.Finite
public import Idealize.ShloMosaic.Lib.Claim
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference of the attention call runs to its end and leaves its arguments as they were. -/
theorem frame_ReferenceIdeal : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩) (Cert.ReferenceIdeal.Value.run m ρ)

/-- The attention call and its reference end with equal results, when the inputs the scores are made of are real. -/
theorem value_KernelIdeal : Cert.algebraic_KernelIdeal_ReferenceIdeal_pre_attention_inputs_finite (hKernelIdeal := Cert.KernelIdeal.Gen.facts) (hReferenceIdeal := Cert.ReferenceIdeal.Gen.facts)
    (hPre_attention_inputs_finite := Cert.Pre_attention_inputs_finite.Gen.facts) := by
  haveI := Cert.Pre_attention_inputs_finite.Gen.facts
  pair_intro
  · run_from Cert.KernelIdeal.Gen.run_main m g
  · run_from Cert.ReferenceIdeal.Value.run m' g'
    obtain ⟨h0, h1, h2, h3⟩ := Cert.Finite.reals _ _ _ _ _ (hpre c)
    obtain ⟨a0, a1, a2, a3, a4⟩ := hagree c
    refine (Cert.XattnProof.ref_run m' c).trans (Eq.trans ?_ (Cert.XattnProof.final m c h0 h1 h2 h3).symm)
    rw [a0, a1, a2, a3, a4]

/-- The reference of the feed-forward call runs to its end and leaves its arguments as they were. -/
theorem frame_Reference2Ideal : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩) (Cert.Reference2Ideal.Value.run m ρ)

/-- The feed-forward call and its reference end with equal results. -/
theorem value_Kernel2Ideal : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · run_from Cert.Reference2Ideal.Value.run m' g'
    obtain ⟨a0, a1, a2, a3, a4, a5, a6⟩ := hagree c
    refine (Cert.FfnProof.ref_run m' c).trans (Eq.trans ?_ (Cert.FfnProof.final m c).symm)
    rw [a0, a1, a2, a3, a4, a5, a6]

/-- The reference of the projections' call runs to its end and leaves its arguments as they were. -/
theorem frame_Reference3Ideal : Cert.quiescent_Reference3Ideal (hReference3Ideal := Cert.Reference3Ideal.Gen.facts) := by
  intro m ρ _
  exact (θ_run Cert.Reference3Ideal.defs _ _).mono (fun r h => ⟨fun c => (h c).2.2, sem_eq_zero_of_no_sems (by decide) r.2⟩) (Cert.Reference3Ideal.Value.run m ρ)

/-- The projections' call and its reference end with equal results. -/
theorem value_Kernel3Ideal : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
    all_goals (simp only [List.flatten_cons, List.flatten_nil, List.append_nil]; after_reads_simp)
  · run_from Cert.Reference3Ideal.Value.run m' g'
    · obtain ⟨a0, a1, a2, a3⟩ := hagree c
      refine (Cert.InProjProof.ref_run16 m' c).trans (Eq.trans ?_ (Cert.InProjProof.final16 m c).symm)
      rw [a0, a1, a2]
    · obtain ⟨a0, a1, a2, a3⟩ := hagree c
      refine (Cert.InProjProof.ref_run32 m' c).trans (Eq.trans ?_ (Cert.InProjProof.final32 m c).symm)
      rw [a0, a1, a2, a3]

/-- The reference of the joining call runs to its end and leaves its arguments as they were. -/
theorem frame_Reference4Ideal : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩) (Cert.Reference4Ideal.Value.run m ρ)

/-- The joining call and its reference end with equal results. -/
theorem value_Kernel4Ideal : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g
  · run_from Cert.Reference4Ideal.Value.run m' g'
    exact (Cert.MergeProof.final m c).symm

/-- The reference of the memory's call runs to its end and leaves its arguments as they were. -/
theorem frame_Reference5Ideal : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩) (Cert.Reference5Ideal.Value.run m ρ)

/-- The memory's call and its reference end with equal results. -/
theorem value_Kernel5Ideal : Cert.algebraic_Kernel5Ideal_Reference5Ideal (hKernel5Ideal := Cert.Kernel5Ideal.Gen.facts) (hReference5Ideal := Cert.Reference5Ideal.Gen.facts) := by
  pair_intro
  · run_from Cert.Kernel5Ideal.Gen.run_main m g
  · run_from Cert.Reference5Ideal.Value.run m' g'
    exact (Cert.KvProof.final m c).symm

/-- All claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_attention_inputs_finite.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Kernel2.Gen.frame m ρ,
  fun m ρ _ => Cert.Kernel2Ideal.Gen.frame m ρ,
  frame_Reference2Ideal,
  fun m ρ _ => Cert.Kernel3.Gen.frame m ρ,
  fun m ρ _ => Cert.Kernel3Ideal.Gen.frame m ρ,
  frame_Reference3Ideal,
  fun m ρ _ => Cert.Kernel4.Gen.frame m ρ,
  fun m ρ _ => Cert.Kernel4Ideal.Gen.frame m ρ,
  frame_Reference4Ideal,
  fun m ρ _ => Cert.Kernel5.Gen.frame m ρ,
  fun m ρ _ => Cert.Kernel5Ideal.Gen.frame m ρ,
  frame_Reference5Ideal,
  trivial,
  value_KernelIdeal,
  trivial,
  value_Kernel2Ideal,
  trivial,
  value_Kernel3Ideal,
  trivial,
  value_Kernel4Ideal,
  trivial,
  value_Kernel5Ideal⟩

end Cert.Proof

end
